-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 256]⟩ ⟨2, ![16384, 256]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![16384, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .bf16) (main_arg1 : FVec F S2048x256 .bf16) (main_arg2 : FVec F S2048x256 .bf16) : IVec S_ 1 :=
  let main_v0 : FVec F S2048x256 .bf16 := Host.absf main_arg0
  let main_cst : FVec F S_ .bf16 := constant S_ .bf16 0x7F80#16
  let main_v1 : FVec F S2048x256 .bf16 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .bf16 := Host.absf main_arg1
  let main_cst_0 : FVec F S_ .bf16 := constant S_ .bf16 0x7F80#16
  let main_v5 : FVec F S2048x256 .bf16 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Pre_finite_scores_ReferenceIdeal.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .bf16) (main_arg1 : FVec F S16384x256 .bf16) (main_arg2 : FVec F S16384x256 .bf16) : IVec S_ 1 :=
  let main_v0 : FVec F S16384x256 .bf16 := Host.absf main_arg0
  let main_cst : FVec F S_ .bf16 := constant S_ .bf16 0x7F80#16
  let main_v1 : FVec F S16384x256 .bf16 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .bf16 := Host.absf main_arg1
  let main_cst_0 : FVec F S_ .bf16 := constant S_ .bf16 0x7F80#16
  let main_v5 : FVec F S16384x256 .bf16 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S2048x256 : Shape := ⟨2, ![2048, 256]⟩
abbrev S2x2048x256 : Shape := ⟨3, ![2, 2048, 256]⟩
abbrev S9 : Shape := ⟨1, ![9]⟩
abbrev S_ : Shape := ⟨0, ![]⟩
abbrev S1x2048x256 : Shape := ⟨3, ![1, 2048, 256]⟩
abbrev S2048x1 : Shape := ⟨2, ![2048, 1]⟩
abbrev S1 : Shape := ⟨1, ![1]⟩
abbrev S1x512x256 : Shape := ⟨3, ![1, 512, 256]⟩
abbrev S512x256 : Shape := ⟨2, ![512, 256]⟩
abbrev S2048x512 : Shape := ⟨2, ![2048, 512]⟩
abbrev S2048 : Shape := ⟨1, ![2048]⟩
abbrev S2x1024x256 : Shape := ⟨3, ![2, 1024, 256]⟩

abbrev nBuf : Space → Nat
  | .hbm => 4
  | .vmem => 12
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .bf16⟩
  | .hbm, ⟨3, _⟩ => ⟨S2048x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .f32⟩
  | .local _ .vmem, ⟨4, _⟩ => ⟨S2x2048x256, .bf16⟩
  | .local _ .vmem, ⟨5, _⟩ => ⟨S2x2048x256, .bf16⟩
  | .local _ .vmem, ⟨6, _⟩ => ⟨S2x2048x256, .bf16⟩
  | .local _ .vmem, ⟨7, _⟩ => ⟨S2x2048x256, .bf16⟩
  | .local _ .vmem, ⟨8, _⟩ => ⟨S2x2048x256, .bf16⟩
  | .local _ .vmem, ⟨9, _⟩ => ⟨S2x2048x256, .bf16⟩
  | .local _ .vmem, ⟨10, _⟩ => ⟨S2x2048x256, .bf16⟩
  | .local _ .vmem, ⟨11, _⟩ => ⟨S2x2048x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c1_i32_6 : BitVec 32 := 1#32
  let v22 : BitVec 32 := Scalar.addi v21 c1_i32_6
  let c4_i32_7 : BitVec 32 := 4#32
  let v23 : BitVec 32 := Scalar.remsi v22 c4_i32_7
  let v24 : BitVec 32 := Scalar.addi v20 v23
  let c1_i32_12 : BitVec 32 := 1#32
  let v31 : BitVec 32 := Scalar.muli v24 c1_i32_12
  let v32 : BitVec 32 := Scalar.addi c0_i32_13 v31
  v32.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c3_i32 : BitVec 32 := 3#32
  let v25 : BitVec 32 := Scalar.addi v21 c3_i32
  let c4_i32_8 : BitVec 32 := 4#32
  let v26 : BitVec 32 := Scalar.remsi v25 c4_i32_8
  let v27 : BitVec 32 := Scalar.addi v20 v26
  let c1_i32_15 : BitVec 32 := 1#32
  let v33 : BitVec 32 := Scalar.muli v27 c1_i32_15
  let v34 : BitVec 32 := Scalar.addi c0_i32_16 v33
  v34.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v28 : BitVec 32 := Scalar.addi v2 c4_i32_9
  let c8_i32_10 : BitVec 32 := 8#32
  let v29 : BitVec 32 := Scalar.remsi v28 c8_i32_10
  let c1_i32_18 : BitVec 32 := 1#32
  let v35 : BitVec 32 := Scalar.muli v29 c1_i32_18
  let v36 : BitVec 32 := Scalar.addi c0_i32_19 v35
  v36.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c1_i32_6 : BitVec 32 := 1#32
  let v22 : BitVec 32 := Scalar.addi v21 c1_i32_6
  let c4_i32_7 : BitVec 32 := 4#32
  let v23 : BitVec 32 := Scalar.remsi v22 c4_i32_7
  let v24 : BitVec 32 := Scalar.addi v20 v23
  let c1_i32_36 : BitVec 32 := 1#32
  let v54 : BitVec 32 := Scalar.muli v24 c1_i32_36
  let v55 : BitVec 32 := Scalar.addi c0_i32_37 v54
  v55.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c3_i32 : BitVec 32 := 3#32
  let v25 : BitVec 32 := Scalar.addi v21 c3_i32
  let c4_i32_8 : BitVec 32 := 4#32
  let v26 : BitVec 32 := Scalar.remsi v25 c4_i32_8
  let v27 : BitVec 32 := Scalar.addi v20 v26
  let c1_i32_40 : BitVec 32 := 1#32
  let v60 : BitVec 32 := Scalar.muli v27 c1_i32_40
  let v61 : BitVec 32 := Scalar.addi c0_i32_41 v60
  v61.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v28 : BitVec 32 := Scalar.addi v2 c4_i32_9
  let c8_i32_10 : BitVec 32 := 8#32
  let v29 : BitVec 32 := Scalar.remsi v28 c8_i32_10
  let c1_i32_43 : BitVec 32 := 1#32
  let v66 : BitVec 32 := Scalar.muli v29 c1_i32_43
  let v67 : BitVec 32 := Scalar.addi c0_i32_44 v66
  v67.toNat
def k0_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c1_i32_6 : BitVec 32 := 1#32
  let v22 : BitVec 32 := Scalar.addi v21 c1_i32_6
  let c4_i32_7 : BitVec 32 := 4#32
  let v23 : BitVec 32 := Scalar.remsi v22 c4_i32_7
  let v24 : BitVec 32 := Scalar.addi v20 v23
  let c1_i32_96 : BitVec 32 := 1#32
  let v168 : BitVec 32 := Scalar.muli v24 c1_i32_96
  let v169 : BitVec 32 := Scalar.addi c0_i32_97 v168
  v169.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c3_i32 : BitVec 32 := 3#32
  let v25 : BitVec 32 := Scalar.addi v21 c3_i32
  let c4_i32_8 : BitVec 32 := 4#32
  let v26 : BitVec 32 := Scalar.remsi v25 c4_i32_8
  let v27 : BitVec 32 := Scalar.addi v20 v26
  let c1_i32_100 : BitVec 32 := 1#32
  let v174 : BitVec 32 := Scalar.muli v27 c1_i32_100
  let v175 : BitVec 32 := Scalar.addi c0_i32_101 v174
  v175.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c1_i32_6 : BitVec 32 := 1#32
  let v22 : BitVec 32 := Scalar.addi v21 c1_i32_6
  let c4_i32_7 : BitVec 32 := 4#32
  let v23 : BitVec 32 := Scalar.remsi v22 c4_i32_7
  let v24 : BitVec 32 := Scalar.addi v20 v23
  let c1_i32_103 : BitVec 32 := 1#32
  let v180 : BitVec 32 := Scalar.muli v24 c1_i32_103
  let v181 : BitVec 32 := Scalar.addi c0_i32_104 v180
  v181.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c3_i32 : BitVec 32 := 3#32
  let v25 : BitVec 32 := Scalar.addi v21 c3_i32
  let c4_i32_8 : BitVec 32 := 4#32
  let v26 : BitVec 32 := Scalar.remsi v25 c4_i32_8
  let v27 : BitVec 32 := Scalar.addi v20 v26
  let c1_i32_112 : BitVec 32 := 1#32
  let v188 : BitVec 32 := Scalar.muli v27 c1_i32_112
  let v189 : BitVec 32 := Scalar.addi c0_i32_113 v188
  v189.toNat
def k0_dev11 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c1_i32_6 : BitVec 32 := 1#32
  let v22 : BitVec 32 := Scalar.addi v21 c1_i32_6
  let c4_i32_7 : BitVec 32 := 4#32
  let v23 : BitVec 32 := Scalar.remsi v22 c4_i32_7
  let v24 : BitVec 32 := Scalar.addi v20 v23
  let c1_i32_268 : BitVec 32 := 1#32
  let v468 : BitVec 32 := Scalar.muli v24 c1_i32_268
  let v469 : BitVec 32 := Scalar.addi c0_i32_269 v468
  v469.toNat
def k0_dev12 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_5 : BitVec 32 := 4#32
  let v20 : BitVec 32 := Scalar.muli v19 c4_i32_5
  let v21 : BitVec 32 := Scalar.subi v2 v20
  let c3_i32 : BitVec 32 := 3#32
  let v25 : BitVec 32 := Scalar.addi v21 c3_i32
  let c4_i32_8 : BitVec 32 := 4#32
  let v26 : BitVec 32 := Scalar.remsi v25 c4_i32_8
  let v27 : BitVec 32 := Scalar.addi v20 v26
  let c1_i32_278 : BitVec 32 := 1#32
  let v476 : BitVec 32 := Scalar.muli v27 c1_i32_278
  let v477 : BitVec 32 := Scalar.addi c0_i32_279 v476
  v477.toNat
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x256 : Shape := ⟨2, ![16384, 256]⟩
abbrev S256x16384 : Shape := ⟨2, ![256, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x256, .bf16⟩
  | .hbm, ⟨2, _⟩ => ⟨S16384x256, .bf16⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S256x16384, .f32⟩
  | .hbm, ⟨7, _⟩ => ⟨S16384x16384, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x16384, .f32⟩
  | .hbm, ⟨23, _⟩ => ⟨S16384x16384, .f32⟩
  | .hbm, ⟨24, _⟩ => ⟨S16384x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Proto.lean ====
/-
The signals and transfers of the attention kernel, as a schedule.

The eight devices form two rings of four; each device also has an opposite device in the other ring.
A device first signals its right, left and opposite neighbour and waits for three signals itself;
then it makes nine transfers, numbered 0 to 8, each completing on a send semaphore of its own and on a
receive semaphore of the device it is addressed to. This module names the devices, the buffers' parts
and the semaphores, says what each semaphore hands over when it is waited on, and orders the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- Duty names: a barrier cell has three duties, one per neighbour; a transfer's cells have one. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices -/

set_option backward.proofsInPublic true in
/-- The next device of the same ring. -/
def rgt (c : Dev nD) : Dev nD := ⟨c.val / 4 * 4 + (c.val % 4 + 1) % 4, by have := c.isLt; change c.val < 8 at this; change _ < 8; omega⟩
set_option backward.proofsInPublic true in
/-- The previous device of the same ring. -/
def lft (c : Dev nD) : Dev nD := ⟨c.val / 4 * 4 + (c.val % 4 + 3) % 4, by have := c.isLt; change c.val < 8 at this; change _ < 8; omega⟩
set_option backward.proofsInPublic true in
/-- The device at the same place of the other ring. -/
def opp (c : Dev nD) : Dev nD := ⟨(c.val + 4) % 8, Nat.mod_lt _ (by decide)⟩

theorem rgt_lft (c : Dev nD) : rgt (lft c) = c := by revert c; decide
theorem lft_rgt (c : Dev nD) : lft (rgt c) = c := by revert c; decide
theorem opp_opp (c : Dev nD) : opp (opp c) = c := by revert c; decide
/-- Two steps either way round a ring of four meet. -/
theorem lft_lft (c : Dev nD) : lft (lft c) = rgt (rgt c) := by revert c; decide

def rgtE : Dev nD ≃ Dev nD := ⟨rgt, lft, lft_rgt, rgt_lft⟩
def oppE : Dev nD ≃ Dev nD := ⟨opp, opp, opp_opp, opp_opp⟩

/-- The device transfer `i` of device `c` is addressed to. -/
def tgt (i : Fin 9) (c : Dev nD) : Dev nD := ![rgt c, lft c, opp c, rgt c, lft c, rgt c, lft c, rgt c, lft c] i
/-- The device whose transfer `i` is addressed to `c`. -/
def frm (i : Fin 9) (c : Dev nD) : Dev nD := ![lft c, rgt c, opp c, lft c, rgt c, lft c, rgt c, lft c, rgt c] i

theorem frm_tgt (i : Fin 9) (c : Dev nD) : frm i (tgt i c) = c := by revert i c; decide
theorem tgt_frm (i : Fin 9) (c : Dev nD) : tgt i (frm i c) = c := by revert i c; decide

/-- Transfer `i`'s addressing as a permutation of the devices. -/
def tgtE (i : Fin 9) : Dev nD ≃ Dev nD := ⟨tgt i, frm i, frm_tgt i, tgt_frm i⟩

theorem dev1_eq (c : Dev nD) : (⟨k0_dev1 c, k0_dev1_lt c⟩ : Dev nD) = rgt c := by revert c; decide +kernel
theorem dev2_eq (c : Dev nD) : (⟨k0_dev2 c, k0_dev2_lt c⟩ : Dev nD) = lft c := by revert c; decide +kernel
theorem dev3_eq (c : Dev nD) : (⟨k0_dev3 c, k0_dev3_lt c⟩ : Dev nD) = opp c := by revert c; decide +kernel
theorem dev4_eq (c : Dev nD) : (⟨k0_dev4 c, k0_dev4_lt c⟩ : Dev nD) = tgt 0 c := by revert c; decide +kernel
theorem dev5_eq (c : Dev nD) : (⟨k0_dev5 c, k0_dev5_lt c⟩ : Dev nD) = tgt 1 c := by revert c; decide +kernel
theorem dev6_eq (c : Dev nD) : (⟨k0_dev6 c, k0_dev6_lt c⟩ : Dev nD) = tgt 2 c := by revert c; decide +kernel
theorem dev7_eq (c : Dev nD) : (⟨k0_dev7 c, k0_dev7_lt c⟩ : Dev nD) = tgt 3 c := by revert c; decide +kernel
theorem dev8_eq (c : Dev nD) : (⟨k0_dev8 c, k0_dev8_lt c⟩ : Dev nD) = tgt 4 c := by revert c; decide +kernel
theorem dev9_eq (c : Dev nD) : (⟨k0_dev9 c, k0_dev9_lt c⟩ : Dev nD) = tgt 5 c := by revert c; decide +kernel
theorem dev10_eq (c : Dev nD) : (⟨k0_dev10 c, k0_dev10_lt c⟩ : Dev nD) = tgt 6 c := by revert c; decide +kernel
theorem dev11_eq (c : Dev nD) : (⟨k0_dev11 c, k0_dev11_lt c⟩ : Dev nD) = tgt 7 c := by revert c; decide +kernel
theorem dev12_eq (c : Dev nD) : (⟨k0_dev12 c, k0_dev12_lt c⟩ : Dev nD) = tgt 8 c := by revert c; decide +kernel

/-! ## The semaphores -/

/-- The runtime's barrier semaphore. -/
abbrev barS : Sem sig := (SemArray.scalar (sig.barrier 0 rfl) : Sems sig S_).sem
/-- The two semaphores of transfer `i`: the one the sender waits on, the one the receiver waits on. -/
abbrev sS (i : Fin 9) : DmaSem sig := (⟨4 + i.val, by have := i.isLt; show 4 + i.val < 22; omega⟩ : Fin 22)
abbrev rS (i : Fin 9) : DmaSem sig := (⟨13 + i.val, by have := i.isLt; show 13 + i.val < 22; omega⟩ : Fin 22)

abbrev barCell (c : Dev nD) : GSem nD τ sig := ((c : Thread nD τ), .reg barS)
abbrev sendCell (i : Fin 9) (c : Dev nD) : GSem nD τ sig := ((c : Thread nD τ), .dma (sS i))
abbrev recvCell (i : Fin 9) (c : Dev nD) : GSem nD τ sig := ((c : Thread nD τ), .dma (rS i))

/-- The kernel's own semaphores: `(false, i)` transfer `i`'s send semaphore, `(true, i)` its receive semaphore. -/
abbrev osem (k : Bool × Fin 9) : SemLoc sig := .dma (if k.1 then rS k.2 else sS k.2)
/-- Those and the barrier semaphore. -/
abbrev csem : Option (Bool × Fin 9) → SemLoc sig := fun | none => .reg barS | some k => osem k
abbrev kcell (ck : Dev nD × Option (Bool × Fin 9)) : GSem nD τ sig := ((ck.1 : Thread nD τ), csem ck.2)

/-! ## The buffers -/

/-- Transfer-sized parts of the buffers: the first and the second half of both slots' rows. -/
abbrev rLo : Rect S2x2048x256 := Rect.unit (s := S2x2048x256) ![0, 0, 0] S2x1024x256.size inb_S2x2048x256_S2x1024x256_0_0_0
abbrev rHi : Rect S2x2048x256 := Rect.unit (s := S2x2048x256) ![0, 1024, 0] S2x1024x256.size inb_S2x2048x256_S2x1024x256_0_1024_0

/-- The whole of buffer `b`, and its two halves. -/
abbrev wM (b : Ref sig .tc) : Memref sig .tc b.space b.ty.shape b.ty.elt := Memref.whole b
abbrev b0 : Memref sig .tc .vmem S2x2048x256 .bf16 := Memref.whole cc0_scratch0
abbrev b1 : Memref sig .tc .vmem S2x2048x256 .bf16 := Memref.whole cc0_scratch1
abbrev b2 : Memref sig .tc .vmem S2x2048x256 .bf16 := Memref.whole cc0_scratch2
abbrev b3 : Memref sig .tc .vmem S2x2048x256 .bf16 := Memref.whole cc0_scratch3
abbrev b4 : Memref sig .tc .vmem S2x2048x256 .bf16 := Memref.whole cc0_scratch4
abbrev b5 : Memref sig .tc .vmem S2x2048x256 .bf16 := Memref.whole cc0_scratch5
abbrev b6 : Memref sig .tc .vmem S2x2048x256 .bf16 := Memref.whole cc0_scratch6
abbrev b7 : Memref sig .tc .vmem S2x2048x256 .bf16 := Memref.whole cc0_scratch7
abbrev lo (b : Memref sig .tc .vmem S2x2048x256 .bf16) : Memref sig .tc .vmem S2x1024x256 .bf16 := b.slice rLo (fun _ => rfl)
abbrev hi (b : Memref sig .tc .vmem S2x2048x256 .bf16) : Memref sig .tc .vmem S2x1024x256 .bf16 := b.slice rHi (fun _ => rfl)

/-- Device `c` holds share `q` of the elements of memref `M`, its buffer at contents `f`. -/
abbrev pt {s : Shape} {e : EltTy} (M : Memref sig .tc .vmem s e) (q : PosShare TreeShare) (c : Dev nD) (f : Buf (Elt F) (M.view.loc (c : Thread nD τ))) : sProp 𝕄 :=
  M.view.loc (c : Thread nD τ) ↦[M.view.set]{q} f

/-! ## The contents -/

/-- Device `c`'s blocks of the three arguments, as staged. -/
def qst (c : Dev nD) : (cc0_stg0_0 : Ref sig .tc).ty.Contents (Elt F) := (win0_0.blk (0 : Fin 1)).view.read (Elt F) (m ((c : Thread nD τ).loc main_arg0))
def kst (c : Dev nD) : (cc0_stg1_0 : Ref sig .tc).ty.Contents (Elt F) := (win0_1.blk (0 : Fin 1)).view.read (Elt F) (m ((c : Thread nD τ).loc main_arg1))
def vst (c : Dev nD) : (cc0_stg2_0 : Ref sig .tc).ty.Contents (Elt F) := (win0_2.blk (0 : Fin 1)).view.read (Elt F) (m ((c : Thread nD τ).loc main_arg2))

/-- Contents of the eight key/value buffers. -/
abbrev KVt (F : FTy → Type) : Type := S2x2048x256.Idx → Elt F .bf16

/-- An index of one slot, from an index of the two. -/
def slotIdx (i : S2x2048x256.Idx) : S1x2048x256.Idx := fun a => match a with
  | 0 => (0 : Fin 1)
  | 1 => i 1
  | 2 => i 2

/-- Device `c`'s keys in slot 0 and its values in slot 1. -/
def KV (c : Dev nD) : KVt F := fun i => if (i 0).val = 0 then k0_pay2 (kst m c) (slotIdx i) else k0_pay3 (vst m c) (slotIdx i)

/-- The device whose keys and values transfer `i` of device `c` carries. -/
def org (i : Fin 9) (c : Dev nD) : Dev nD :=
  ![c, c, c, opp c, opp c, lft c, rgt c, opp (lft c), opp (rgt c)] i

/-! ## What the semaphores hand over -/

/-- Transfer `i`'s destination, on device `d`, at contents to be overwritten. -/
def land (i : Fin 9) (d : Dev nD) : sProp 𝕄 :=
  ![iprop(∃ f, pt b1 fullShare d f), iprop(∃ f, pt b2 fullShare d f), iprop(∃ f, pt b3 fullShare d f), iprop(∃ f, pt b4 fullShare d f), iprop(∃ f, pt b5 fullShare d f),
    iprop(∃ f, pt (lo b6) fullShare d f), iprop(∃ f, pt (hi b6) fullShare d f), iprop(∃ f, pt (lo b7) fullShare d f), iprop(∃ f, pt (hi b7) fullShare d f)] i

/-- What arrives at device `c` with transfer `i`: the destination at the keys and values carried. -/
def recvPay (i : Fin 9) (c : Dev nD) (X : KVt F) : sProp 𝕄 :=
  ![pt b1 fullShare c X, pt b2 fullShare c X, pt b3 fullShare c X, pt b4 fullShare c X, pt b5 fullShare c X,
    pt (lo b6) fullShare c X, pt (hi b6) fullShare c X, pt (lo b7) fullShare c X, pt (hi b7) fullShare c X] i

/-- What returns to device `c` when transfer `i`'s source has been read: the share lent. -/
def sendPay (i : Fin 9) (c : Dev nD) (X : KVt F) : sProp 𝕄 :=
  ![pt b0 fullShare.right.left c X, pt b0 fullShare.right.right.left c X, pt b0 fullShare.right.right.right c X,
    pt b3 fullShare.right.left c X, pt b3 fullShare.right.right c X,
    pt (lo b1) fullShare.right c X, pt (hi b2) fullShare.right c X, pt (lo b4) fullShare.right c X, pt (hi b5) fullShare.right c X] i

/-- What device `c` learns from its three signals: the destinations of its nine transfers, those on its left neighbour from
    the left, those on its right from the right, the opposite's from there. -/
def barPay (j : Fin 3) (c : Dev nD) : sProp 𝕄 :=
  ![iprop(land 1 (lft c) ∗ land 4 (lft c) ∗ land 6 (lft c) ∗ land 8 (lft c)),
    iprop(land 0 (rgt c) ∗ land 3 (rgt c) ∗ land 5 (rgt c) ∗ land 7 (rgt c)), land 2 (opp c)] j

instance land_storable (i : Fin 9) (d : Dev nD) : BI.Storable (upEmb : UEmb _ 𝕄) (land (F := F) i d) := by
  unfold land; fin_cases i <;> dsimp <;> infer_instance
instance recvPay_storable (i : Fin 9) (d : Dev nD) (X : KVt F) : BI.Storable (upEmb : UEmb _ 𝕄) (recvPay i d X) := by
  unfold recvPay; fin_cases i <;> dsimp <;> infer_instance
instance sendPay_storable (i : Fin 9) (d : Dev nD) (X : KVt F) : BI.Storable (upEmb : UEmb _ 𝕄) (sendPay i d X) := by
  unfold sendPay; fin_cases i <;> dsimp <;> infer_instance
instance barPay_storable (j : Fin 3) (d : Dev nD) : BI.Storable (upEmb : UEmb _ 𝕄) (barPay (F := F) j d) := by
  unfold barPay; fin_cases j <;> dsimp <;> infer_instance

/-! ## The schedule -/

/-- What transfer `i` adds to its two semaphores. -/
def amt (i : Fin 9) : ℕ := if i.val < 5 then b1.view.dmaCredit else (lo b6).view.dmaCredit

theorem amt_pos (i : Fin 9) : 0 < amt i := by
  unfold amt; split
  · exact View.dmaCredit_pos _ (by decide)
  · exact View.dmaCredit_pos _ (by decide)

/-- The transfer a DMA semaphore belongs to. -/
def sendIx (q : DmaSem sig) : Option (Fin 9) := if h : 4 ≤ q.val ∧ q.val < 13 then some ⟨q.val - 4, by omega⟩ else none
def recvIx (q : DmaSem sig) : Option (Fin 9) := if h : 13 ≤ q.val ∧ q.val < 22 then some ⟨q.val - 13, by omega⟩ else none

theorem sendIx_sS (i : Fin 9) : sendIx (sS i) = some i := by revert i; decide
theorem recvIx_sS (i : Fin 9) : recvIx (sS i) = none := by revert i; decide
theorem recvIx_rS (i : Fin 9) : recvIx (rS i) = some i := by revert i; decide

/-- One round: the barrier cell's three units, and each transfer's credit on its two cells. -/
def rd : Rounds.Schedule (GSem nD τ sig) (Fin 3) 𝕄 where
  duties g r := if r = 0 ∧ g.1.2 = .tc then
      match g.2 with
      | .reg _ => Finset.univ
      | .dma q => if 4 ≤ q.val then {0} else ∅
    else ∅
  unitless _ := False
  amount g _ _ := match g.2 with
    | .reg _ => 1
    | .dma q => ((recvIx q).or (sendIx q)).elim 1 amt
  payload g _ d := match g.2 with
    | .reg _ => barPay d g.1.1
    | .dma q => match recvIx q with
      | some i => recvPay i g.1.1 (KV m (org i (frm i g.1.1)))
      | none => match sendIx q with
        | some i => sendPay i g.1.1 (KV m (org i g.1.1))
        | none => iprop(emp)
  amount_pos g _ _ _ := by
    split
    · exact Nat.one_pos
    · rename_i q _
      cases (recvIx q).or (sendIx q) with
      | none => exact Nat.one_pos
      | some i => exact amt_pos i

instance rd_payload_storable (g : GSem nD τ sig) (r : ℕ) (d : Fin 3) : BI.Storable (upEmb : UEmb _ 𝕄) ((rd (F := F) m).payload g r d) := by
  dsimp only [rd]
  (repeat' split) <;> infer_instance

section Sched
variable (c : Dev nD) (i : Fin 9)

omit [FloatOps F] in
theorem zero_mem_fin3 : (0 : Fin 3) ∈ ({0} : Finset (Fin 3)) := Finset.mem_singleton_self _

theorem duties_bar : (rd (F := F) m).duties (barCell c) 0 = Finset.univ := rfl
theorem duties_send : (rd (F := F) m).duties (sendCell i c) 0 = {0} := by
  dsimp only [rd]; rw [if_pos ⟨rfl, rfl⟩]; exact if_pos (Nat.le_add_right _ _)
theorem duties_recv : (rd (F := F) m).duties (recvCell i c) 0 = {0} := by
  dsimp only [rd]; rw [if_pos ⟨rfl, rfl⟩]; exact if_pos (by show 4 ≤ 13 + i.val; omega)
theorem duties_later (g : GSem nD τ sig) : ∀ r, 1 ≤ r → (rd (F := F) m).duties g r = ∅ :=
  fun r hr => by dsimp only [rd]; rw [if_neg fun h => by omega]

theorem amount_bar (d : Fin 3) : (rd (F := F) m).amount (barCell c) 0 d = 1 := rfl
theorem amount_send (d : Fin 3) : (rd (F := F) m).amount (sendCell i c) 0 d = amt i := by
  dsimp only [rd]; rw [recvIx_sS, sendIx_sS]; rfl
theorem amount_recv (d : Fin 3) : (rd (F := F) m).amount (recvCell i c) 0 d = amt i := by
  dsimp only [rd]; rw [recvIx_rS]; rfl

theorem payload_bar (d : Fin 3) : (rd (F := F) m).payload (barCell c) 0 d = barPay d c := rfl
theorem payload_send (d : Fin 3) : (rd (F := F) m).payload (sendCell i c) 0 d = sendPay i c (KV m (org i c)) := by
  dsimp only [rd]; rw [recvIx_sS, sendIx_sS]
theorem payload_recv (d : Fin 3) : (rd (F := F) m).payload (recvCell i c) 0 d = recvPay i c (KV m (org i (frm i c))) := by
  dsimp only [rd]; rw [recvIx_rS]

theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell i c) 0 = amt i := by
  unfold Schedule.expect Schedule.amountOf; rw [duties_send, Finset.sum_singleton, amount_send]
theorem expect_recv : (rd (F := F) m).expect (recvCell i c) 0 = amt i := by
  unfold Schedule.expect Schedule.amountOf; rw [duties_recv, Finset.sum_singleton, amount_recv]

/-- What a finished barrier wait hands over: all three signals' payloads. -/
theorem rest_bar : bigSep ((rd (F := F) m).duties (barCell c) 0 \ ∅) (fun d => (rd (F := F) m).payload (barCell c) 0 d)
    = iprop(barPay 0 c ∗ barPay 1 c ∗ barPay 2 c) := by
  rw [Finset.sdiff_empty, duties_bar]
  exact bigSep_univ_eq_bigSepL [0, 1, 2] (by decide) (by decide) _
theorem rest_send : bigSep ((rd (F := F) m).duties (sendCell i c) 0 \ ∅) (fun d => (rd (F := F) m).payload (sendCell i c) 0 d)
    = sendPay i c (KV m (org i c)) := by
  rw [Finset.sdiff_empty, duties_send, bigSep_singleton, payload_send]
theorem rest_recv : bigSep ((rd (F := F) m).duties (recvCell i c) 0 \ ∅) (fun d => (rd (F := F) m).payload (recvCell i c) 0 d)
    = recvPay i c (KV m (org i (frm i c))) := by
  rw [Finset.sdiff_empty, duties_recv, bigSep_singleton, payload_recv]

end Sched

/-! ## What a device owes, and the order of the waits -/

/-- What device `c` still owes when the transfers `l` are to be made: each one's credit to its receiver. -/
def rem (c : Dev nD) : List (Fin 9) → CellTallies nD τ sig Unit
  | [] => 0
  | i :: l => rem c l + tallyAt (recvCell i (tgt i c)) () (amt i)

/-- All nine, in order. -/
abbrev allSends : List (Fin 9) := [0, 1, 2, 3, 4, 5, 6, 7, 8]

/-- What device `c` owes at launch: its nine transfers' credits and three signals. -/
def O₀ (c : Dev nD) : CellTallies nD τ sig Unit :=
  rem c allSends + tallyAt (barCell (opp c)) () 1 + tallyAt (barCell (lft c)) () 1 + tallyAt (barCell (rgt c)) () 1

def L (g : GSem nD τ sig) : Finset Unit := if g.1.2 = .tc then {()} else ∅
/-- The level of a semaphore: the barrier first, then the receive semaphores of the three rounds of transfers; the
    staging and send semaphores wait on nothing owed. -/
def lvS : SemLoc sig → ℕ
  | .reg _ => 1
  | .dma q => if q.val < 13 then 0 else if q.val < 16 then 2 else if q.val < 20 then 3 else 4
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything owed by `O` is owed to TensorCore semaphores above level `n`. -/
def Above (n : ℕ) (O : CellTallies nD τ sig Unit) : Prop := ∀ g u, 0 < O g u → g.1.2 = .tc ∧ n < lvS g.2

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (k : ℕ) (h : n < lvS sm) : Above n (tallyAt ((c : Thread nD τ), sm) () k) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
theorem above_rem {n : ℕ} (c : Dev nD) (l : List (Fin 9)) (h : ∀ i ∈ l, n < lvS (.dma (rS i))) : Above n (rem c l) := by
  induction l with
  | nil => exact above_zero n
  | cons i l ih => exact above_add (ih fun j hj => h j (List.mem_cons_of_mem _ hj)) (above_tally _ _ _ (h i List.mem_cons_self))

/-- A wait at level `n` is allowed to a device whose debts are all above `n`. -/
theorem mayWait (c : Dev nD) (sm : SemLoc sig) (n : ℕ) (hn : lvS sm ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

theorem above_O₀ (c : Dev nD) : Above 0 (O₀ c) :=
  above_add (above_add (above_add (above_rem c _ (by decide)) (above_tally _ _ _ (by decide))) (above_tally _ _ _ (by decide)))
    (above_tally _ _ _ (by decide))

end Cert.KernelIdeal.Attn

end
-- ==== Proof.Spec.lean ====
/-
What one device computes: 32 steps of a softmax taken chunk by chunk, each over 512 rows of keys and
values, four chunks from each of the eight devices. A step keeps, for every query row, the largest
score so far, the sum of the weights and the weighted sum of the values, both relative to that score.
-/
module

public import proofs.«01_k».proof.Proof.Proto

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One step -/

/-- The scores of the queries against one chunk's keys. -/
def score (q : FVec F S2048x256 .bf16) (k : FVec F S512x256 .bf16) : FVec F S2048x512 .f32 :=
  matmul dot_S2048x256_S512x256_S2048x512_1_1_0_0_n_n none q k (constant S2048x512 .f32 0x00000000#32)
/-- The largest score so far. -/
def newMax (M : FVec F S2048x1 .f32) (s : FVec F S2048x512 .f32) : FVec F S2048x1 .f32 :=
  maximumf M (shapeCast S2048x1 (multiReduction .maximumf [1] S2048 s 0xFF800000#32 reduces_S2048x512_S2048 (.inl rfl) rfl) shapeCasts_S2048_S2048x1)
/-- The weights of one chunk relative to the score `M`. -/
def weight (s : FVec F S2048x512 .f32) (M : FVec F S2048x1 .f32) : FVec F S2048x512 .f32 :=
  exp (subf s (broadcastTo S2048x512 M broadcasts_S2048x1_S2048x512))
/-- What sums relative to the score `M` are multiplied by to be relative to `M'`. -/
def rescale (M M' : FVec F S2048x1 .f32) : FVec F S2048x1 .f32 := exp (subf M M')
/-- A chunk's weights summed along each row. -/
def rowSum (p : FVec F S2048x512 .f32) : FVec F S2048 .f32 :=
  multiReduction .add [1] S2048 p 0x00000000#32 reduces_S2048x512_S2048 (.inl rfl) rfl
/-- The sums of the weights and of the weighted values, rescaled. -/
def scaleL (l C : FVec F S2048x1 .f32) : FVec F S2048x1 .f32 := mulf l C
def scaleA (a : FVec F S2048x256 .f32) (C : FVec F S2048x1 .f32) : FVec F S2048x256 .f32 :=
  mulf a (broadcastTo S2048x256 C broadcasts_S2048x1_S2048x256)
/-- A chunk's values, weighted. -/
def weighted (p : FVec F S2048x512 .f32) (v : FVec F S512x256 .bf16) : FVec F S2048x256 .f32 :=
  matmul dot_S2048x512_S512x256_S2048x256_1_0_0_1_n_n none p v (constant S2048x256 .f32 0x00000000#32)

variable (F) in
/-- What is kept from chunk to chunk. -/
structure St where
  /-- the largest score so far -/
  M : FVec F S2048x1 .f32
  /-- the sum of the weights -/
  l : FVec F S2048x1 .f32
  /-- the weighted sum of the values -/
  a : FVec F S2048x256 .f32

/-- One step, over the chunk of keys `k` and values `v`. -/
def step (q : FVec F S2048x256 .bf16) (k v : FVec F S512x256 .bf16) (S : St F) : St F where
  M := newMax S.M (score q k)
  l := addf (scaleL S.l (rescale S.M (newMax S.M (score q k)))) (shapeCast S2048x1 (rowSum (weight (score q k) (newMax S.M (score q k)))) shapeCasts_S2048_S2048x1)
  a := addf (scaleA S.a (rescale S.M (newMax S.M (score q k)))) (weighted (weight (score q k) (newMax S.M (score q k))) v)

/-! ## The chunks -/

theorem inb_chunk (p : Fin 2) (t : Fin 4) : ∀ a, (![p.val, 512 * t.val, 0] : Fin 3 → ℕ) a + S1x512x256.size a ≤ S2x2048x256.size a := by
  revert p t; decide

/-- The `t`-th 512 rows of slot `p`. -/
def piece (p : Fin 2) (t : Fin 4) (X : KVt F) : FVec F S512x256 .bf16 :=
  shapeCast S512x256 (b0.view.readAt (Elt F) (Rect.unit (s := S2x2048x256) ![p.val, 512 * t.val, 0] S1x512x256.size (inb_chunk p t)).toLoadRect X : Vec F S1x512x256 .bf16) shapeCasts_S1x512x256_S512x256

/-- The device whose keys and values device `c` takes as its `g`-th. -/
def src (c : Dev nD) : ℕ → Dev nD
  | 0 => c
  | 1 => lft c
  | 2 => rgt c
  | 3 => opp c
  | 4 => opp (lft c)
  | 5 => opp (rgt c)
  | 6 => lft (lft c)
  | _ => opp (lft (lft c))

/-- Chunk `n`'s keys and values on device `c`. -/
def kc (c : Dev nD) (n : ℕ) : FVec F S512x256 .bf16 := piece 0 ⟨n % 4, Nat.mod_lt _ (by decide)⟩ (KV m (src c (n / 4)))
def vc (c : Dev nD) (n : ℕ) : FVec F S512x256 .bf16 := piece 1 ⟨n % 4, Nat.mod_lt _ (by decide)⟩ (KV m (src c (n / 4)))

/-- Device `c`'s queries, scaled. -/
def qs (c : Dev nD) : FVec F S2048x256 .bf16 := k0_pay4 (qst m c)

/-- What device `c` keeps after `n` chunks. -/
def st (c : Dev nD) : ℕ → St F
  | 0 => ⟨k0_pay5, k0_pay6, k0_pay7⟩
  | n + 1 => step (qs m c) (kc m c n) (vc m c n) (st c n)

/-- The parts of step `n` that pass from one piece of the program to the next. -/
def sAt (c : Dev nD) (n : ℕ) : FVec F S2048x512 .f32 := score (qs m c) (kc m c n)
def pAt (c : Dev nD) (n : ℕ) : FVec F S2048x512 .f32 := weight (sAt m c n) (st m c (n + 1)).M
def cAt (c : Dev nD) (n : ℕ) : FVec F S2048x1 .f32 := rescale (st m c n).M (st m c (n + 1)).M

/-- Device `c`'s result. -/
def outAt (c : Dev nD) : (cc0_stg3_0 : Ref sig .tc).ty.Contents (Elt F) := k0_pay1 (st m c 32).l (st m c 32).a

end Cert.KernelIdeal.Attn

end
-- ==== Proof.Rules.lean ====
/-
One rule per kind of step the attention kernel takes between devices: a signal, the barrier wait, a
transfer, the wait for an arrived transfer and the wait for one's own transfer to have been sent; and how
a buffer held in full is lent in parts.
-/
module

public import proofs.«01_k».proof.Proof.Proto

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows -/

/-- Every cell's invariant, at its name, and that its first round is open. -/
def records (K : Dev nD × Option (Bool × Fin 9) → ℕ) : sProp 𝕄 :=
  iprop((bigSep Finset.univ fun ck : Dev nD × Option (Bool × Fin 9) => cellInv ER (rd m) (K ck) (kcell ck))
    ∗ bigSep Finset.univ fun ck : Dev nD × Option (Bool × Fin 9) => reached ER (kcell ck) 0)

instance records_persistent (K : Dev nD × Option (Bool × Fin 9) → ℕ) : BI.Persistent (records m K) := by unfold records; infer_instance

variable (K : Dev nD × Option (Bool × Fin 9) → ℕ)

/-- The records and the levels. -/
def known : sProp 𝕄 := iprop(records m K ∗ levAts L lv)

instance known_persistent : BI.Persistent (known m K) := by unfold known; infer_instance

theorem known_inv (ck : Dev nD × Option (Bool × Fin 9)) : known m K ⊢ cellInv ER (rd m) (K ck) (kcell ck) := by
  have h : (bigSep Finset.univ fun ck : Dev nD × Option (Bool × Fin 9) => (cellInv ER (rd m) (K ck) (kcell ck) : sProp 𝕄)) ⊢ cellInv ER (rd m) (K ck) (kcell ck) :=
    bigSep_elim (Finset.mem_univ ck)
  unfold known records
  iintro ⟨⟨H, -⟩, -⟩
  iapply h; iexact H
theorem known_reached (ck : Dev nD × Option (Bool × Fin 9)) : known m K ⊢ reached ER (kcell ck) 0 := by
  have h : (bigSep Finset.univ fun ck : Dev nD × Option (Bool × Fin 9) => (reached ER (kcell ck) 0 : sProp 𝕄)) ⊢ reached ER (kcell ck) 0 :=
    bigSep_elim (Finset.mem_univ ck)
  unfold known records
  iintro ⟨⟨-, H⟩, -⟩
  iapply h; iexact H
theorem known_lev : known m K ⊢ levAts L lv := by
  unfold known
  iintro ⟨-, H⟩
  iexact H

/-- Device `c` owes `O`, whatever it has waited on. -/
def ow (c : Dev nD) (O : CellTallies nD τ sig Unit) : sProp 𝕄 := iprop(∃ W, owes (c : Thread nD τ) O W)

/-! ## The steps -/

section Steps

variable (c : Dev nD)

/-- Device `c`'s signal to device `n`'s barrier cell, handing over the payload of the duty it pays there. -/
theorem wp_sig {α : Type} {Q : α → sProp 𝕄} {k : PUnit → Prog (TpuEff nD τ sig (Elt F) Λ₀ .tc) α} (n : Dev nD) (d : Fin 3) (O : CellTallies nD τ sig Unit) {n' : Dev nD} (hn : n' = n) :
    iprop(known m K ∗ ow c (O + tallyAt (barCell n) () 1) ∗ dutyTok ER (barCell n) 0 d ∗ barPay d n)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) barS (1#32).toNat) k) Q) := by
  subst hn
  unfold ow
  iintro ⟨#Hk, ⟨%W, HO⟩, Htok, Hpay⟩ Hcont
  iapply (Rounds.wp_signal 𝒱₀ ER (rd m) (c : Thread nD τ) none (dst := (n' : Thread nD τ)) (κ := K (n', none))
      (d := d) (by rw [duties_bar]; exact Finset.mem_univ _) ((amount_bar m n' d).trans (by decide)) () O rfl) $$ [HO Htok Hpay]
  · isplitr; · iapply (known_inv m K (n', none)); iexact Hk
    isplitl [HO]; · iexact HO
    isplitl [Htok]; · iexact Htok
    isplitl [Hpay]; · rw [payload_bar]; iexact Hpay
    iapply (known_reached m K (n', none)); iexact Hk
  iintro HO
  iapply Hcont
  iexists W; iexact HO

/-- Device `c`'s wait for its three signals: the destinations of its transfers. -/
theorem wp_bar {α : Type} {Q : α → sProp 𝕄} {k : PUnit → Prog (TpuEff nD τ sig (Elt F) Λ₀ .tc) α} (O : CellTallies nD τ sig Unit) (hO : Above 1 O) :
    iprop(known m K ∗ cred (tallyAt (barCell c) () 3) ∗ ow c O ∗ atPos ER (barCell c) 0 ∅ 0)
      ⊢ iprop(((ow c O ∗ semVal (barCell c) 0 ∗ barPay 0 c ∗ barPay 1 c ∗ barPay 2 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toNat) k) Q) := by
  unfold ow
  iintro ⟨#Hk, Hc, ⟨%W, HO⟩, Hat⟩ Hcont
  iapply (Rounds.wp_wait_rest_token 𝒱₀ ER (rd m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (known_inv m K (c, none)); iexact Hk
    isplitl [Hc]; · iexact Hc
    isplitl [HO]; · iexact HO
    isplitr; · iapply (mayWait c (.reg barS) 1 le_rfl O hO); iapply (known_lev m K); iexact Hk
    iexact Hat
  iintro ⟨HO, Hat, -, Hpay⟩
  ihave Hp := (Entails.of_eq (rest_bar m c)) $$ Hpay
  imod (Rounds.cell_close ER (rd m) (Set.mem_univ (K (c, none))) (fun h => h) (R := 0 + 1) (duties_later m (barCell c))) $$ [Hat] with Hz
  · isplitr; · iapply (known_inv m K (c, none)); iexact Hk
    iexact Hat
  iapply Hcont
  isplitl [HO]; · iexists (insert (SemLoc.reg barS, ()) W); iexact HO
  isplitl [Hz]; · iexact Hz
  iexact Hp

/-- Device `c`'s wait for the arrival of transfer `i`: its contents. -/
theorem wp_recv {α : Type} {Q : α → sProp 𝕄} {k : PUnit → Prog (TpuEff nD τ sig (Elt F) Λ₀ .tc) α} (i : Fin 9) (O : CellTallies nD τ sig Unit) (hO : Above (lvS (.dma (rS i))) O) {s : Shape} {e : EltTy} {sp sp' : Space}
    {src : Memref sig .tc sp' s e} {dst : Memref sig .tc sp s e} (hN : dst.view.dmaCredit = amt i)
    {q : DmaSem sig} (hq : q = rS i) {h1 : src.view.WordExact} {h2 : dst.view.WordExact} :
    iprop(known m K ∗ cred (tallyAt (recvCell i c) () (amt i)) ∗ ow c O ∗ atPos ER (recvCell i c) 0 ∅ 0)
      ⊢ iprop(((ow c O ∗ semVal (recvCell i c) 0 ∗ recvPay i c (KV m (org i (frm i c))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  subst hq
  unfold ow
  iintro ⟨#Hk, Hc, ⟨%W, HO⟩, Hat⟩ Hcont
  iapply (Rounds.wp_wait_rest_token 𝒱₀ ER (rd m) (c : Thread nD τ) none (κ := K (c, some (true, i)))
      (wpE_waitDma2_eq 𝒱₀ (c : Thread nD τ) none Set.univ) (Set.mem_univ _) () (O := O) (W := W) (R := 0) (m := 0) (T := ∅)
      (by rw [Nat.zero_add, hN]; exact (expect_recv m c i).symm)) $$ [Hc HO Hat]
  · isplitr; · iapply (known_inv m K (c, some (true, i))); iexact Hk
    isplitl [Hc]; · rw [hN]; iexact Hc
    isplitl [HO]; · iexact HO
    isplitr; · iapply (mayWait c (.dma (rS i)) _ le_rfl O hO); iapply (known_lev m K); iexact Hk
    iexact Hat
  iintro ⟨HO, Hat, -, Hpay⟩
  ihave Hp := (Entails.of_eq (rest_recv m c i)) $$ Hpay
  imod (Rounds.cell_close ER (rd m) (Set.mem_univ (K (c, some (true, i)))) (fun h => h) (R := 0 + 1) (duties_later m (recvCell i c))) $$ [Hat] with Hz
  · isplitr; · iapply (known_inv m K (c, some (true, i))); iexact Hk
    iexact Hat
  iapply Hcont
  isplitl [HO]; · iexists (insert (SemLoc.dma (rS i), ()) W); iexact HO
  isplitl [Hz]; · iexact Hz
  iexact Hp

/-- Device `c`'s wait for its own transfer `i` to have been sent, when it owes nothing: the share lent. -/
theorem wp_sent {α : Type} {Q : α → sProp 𝕄} {k : PUnit → Prog (TpuEff nD τ sig (Elt F) Λ₀ .tc) α} (i : Fin 9) {s : Shape} {e : EltTy} {sp sp' : Space}
    {src : Memref sig .tc sp' s e} {dst : Memref sig .tc sp s e} (hN : dst.view.dmaCredit = amt i)
    {q : DmaSem sig} (hq : q = sS i) {h1 : src.view.WordExact} {h2 : dst.view.WordExact} :
    iprop(known m K ∗ cred (tallyAt (sendCell i c) () (amt i)) ∗ ow c 0 ∗ atPos ER (sendCell i c) 0 ∅ 0)
      ⊢ iprop(((ow c 0 ∗ semVal (sendCell i c) 0 ∗ sendPay i c (KV m (org i c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h1 h2) k) Q) := by
  subst hq
  unfold ow
  iintro ⟨#Hk, Hc, ⟨%W, HO⟩, Hat⟩ Hcont
  iapply (Rounds.wp_wait_rest_token 𝒱₀ ER (rd m) (c : Thread nD τ) none (κ := K (c, some (false, i)))
      (wpE_waitDma2_eq 𝒱₀ (c : Thread nD τ) none Set.univ) (Set.mem_univ _) () (O := 0) (W := W) (R := 0) (m := 0) (T := ∅)
      (by rw [Nat.zero_add, hN]; exact (expect_send m c i).symm)) $$ [Hc HO Hat]
  · isplitr; · iapply (known_inv m K (c, some (false, i))); iexact Hk
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c i)) $$ Hpay
  imod (Rounds.cell_close ER (rd m) (Set.mem_univ (K (c, some (false, i)))) (fun h => h) (R := 0 + 1) (duties_later m (sendCell i c))) $$ [Hat] with Hz
  · isplitr; · iapply (known_inv m K (c, some (false, i))); iexact Hk
    iexact Hat
  iapply Hcont
  isplitl [HO]; · iexists (insert (SemLoc.dma (sS i), ()) W); iexact HO
  isplitl [Hz]; · iexact Hz
  iexact Hp

/-- The two duty tokens transfer `i` of device `c` pays with. -/
def sendToks (i : Fin 9) (c : Dev nD) : sProp 𝕄 := iprop(dutyTok ER (sendCell i c) 0 0 ∗ dutyTok ER (recvCell i (tgt i c)) 0 0)

/-- Device `c`'s transfer `i`, when the transfers `i :: l` are still to be made: from a share of the source and the
    destination in full to a credit on its send cell. -/
theorem wp_xfer {α : Type} {Q : α → sProp 𝕄} {k : PUnit → Prog (TpuEff nD τ sig (Elt F) Λ₀ .tc) α} (i : Fin 9) (l : List (Fin 9)) {s : Shape} {src dst : Memref sig .tc .vmem s .bf16}
    {q : PosShare TreeShare} {X : Buf (Elt F) (src.view.loc (c : Thread nD τ))} {Y : Buf (Elt F) (dst.view.loc (tgt i c : Thread nD τ))}
    (hN : dst.view.dmaCredit = amt i)
    (hl : land (F := F) i (tgt i c) = iprop(∃ f, pt dst fullShare (tgt i c) f))
    (hs : sendPay i c (KV m (org i c)) = pt src q c X)
    (hd : recvPay i (tgt i c) (KV m (org i c)) = pt dst fullShare (tgt i c) Y)
    (hw : ∀ fd : Buf (Elt F) (dst.view.loc (tgt i c : Thread nD τ)), ∀ j ∈ dst.view.set, dst.view.write (Elt F) fd (src.view.read (Elt F) X) Finset.univ j = Y j)
    {n : Dev nD} (hn : n = tgt i c) {q₁ q₂ : DmaSem sig} (h₁ : q₁ = sS i) (h₂ : q₂ = rS i)
    {hsc : (dst : Memref sig (Dev.tc n : Thread nD τ).2.kind .vmem s .bf16).view.ref.isScScratch = false}
    {hsrc : src.view.WordExact} {hdst : dst.view.WordExact}
    {hsem : DmaTarget.Typed .vmem (.dma q₂) (.remote (Dev.tc n : Thread nD τ) dst (.dma q₁) hsc)} :
    iprop(known m K ∗ pt src q c X ∗ land i (tgt i c) ∗ ow c (rem c (i :: l)) ∗ sendToks i c)
      ⊢ iprop(((cred (tallyAt (sendCell i c) () (amt i)) ∗ ow c (rem c l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q₁) hsc) (.dma q₂) hsrc hdst hsem) k) Q) := by
  subst hn h₁ h₂
  rw [hl]
  unfold ow sendToks
  iintro ⟨#Hk, Hs, ⟨%fd, Hd⟩, ⟨%W, HO⟩, Ht1, Ht2⟩ Hcont
  iapply (Rounds.wp_send_pointsTo 𝒱₀ ER (rd m) (c : Thread nD τ) none (κ₁ := K (c, some (false, i))) (κ₂ := K (tgt i c, some (true, i)))
    (r₁ := 0) (r₂ := 0) (d₁ := 0) (d₂ := 0) (fd := fd)
    (by rw [duties_send]; exact zero_mem_fin3) (by rw [duties_recv]; exact zero_mem_fin3)
    () () (amt i) (show dst.view.amount (.dma (rS i)) = amt i from hN) (amount_send m c i 0) (amount_recv m (tgt i c) i 0) (rem c l) rfl (W := W)
    (by rw [payload_send, hs])
    (by rw [payload_recv, frm_tgt, hd]; exact Entails.of_eq (pointsTo_congr (hw fd)))) $$ [Hs Hd HO Ht1 Ht2]
  · isplitr; · iapply (known_inv m K (c, some (false, i))); iexact Hk
    isplitr; · iapply (known_inv m K (tgt i c, some (true, i))); iexact Hk
    isplitl [Hs]; · iexact Hs
    isplitl [Hd]; · iexact Hd
    isplitl [HO]; · iexact HO
    isplitl [Ht1]; · iexact Ht1
    isplitr; · iapply (known_reached m K (c, some (false, i))); iexact Hk
    isplitl [Ht2]; · iexact Ht2
    iapply (known_reached m K (tgt i c, some (true, i))); iexact Hk
  iintro ⟨Hc, HO⟩
  iapply Hcont
  isplitl [Hc]; · iexact Hc
  iexists W; iexact HO

end Steps

/-! ## Where a transfer's contents land -/

/-- A whole buffer written over another: the contents carried. -/
theorem write_01 (f X : KVt F) (j : S2x2048x256.Idx) : b1.view.write (Elt F) f (b0.view.read (Elt F) X) Finset.univ j = X j := by
  show (View.whole cc0_scratch1).write (Elt F) f ((View.whole cc0_scratch0).read (Elt F) X) Finset.univ j = X j
  rw [View.read_whole]; exact congrFun (View.write_whole_univ _ _ _) j
theorem write_02 (f X : KVt F) (j : S2x2048x256.Idx) : b2.view.write (Elt F) f (b0.view.read (Elt F) X) Finset.univ j = X j := write_01 f X j
theorem write_03 (f X : KVt F) (j : S2x2048x256.Idx) : b3.view.write (Elt F) f (b0.view.read (Elt F) X) Finset.univ j = X j := write_01 f X j
theorem write_34 (f X : KVt F) (j : S2x2048x256.Idx) : b4.view.write (Elt F) f (b3.view.read (Elt F) X) Finset.univ j = X j := write_01 f X j
theorem write_35 (f X : KVt F) (j : S2x2048x256.Idx) : b5.view.write (Elt F) f (b3.view.read (Elt F) X) Finset.univ j = X j := write_01 f X j

/-- One half of a buffer written over the same half of another: on that half, the contents carried. -/
theorem write_lo (f X : KVt F) : ∀ j ∈ (lo b6).view.set, (lo b6).view.write (Elt F) f ((lo b1).view.read (Elt F) X) Finset.univ j = X j := by
  intro j hj
  obtain ⟨x, -, rfl⟩ := Finset.mem_map.mp hj
  rw [View.write_emb_of_mem _ _ (Finset.mem_univ x)]
  rfl
theorem write_hi (f X : KVt F) : ∀ j ∈ (hi b6).view.set, (hi b6).view.write (Elt F) f ((hi b2).view.read (Elt F) X) Finset.univ j = X j := by
  intro j hj
  obtain ⟨x, -, rfl⟩ := Finset.mem_map.mp hj
  rw [View.write_emb_of_mem _ _ (Finset.mem_univ x)]
  rfl

/-! ## Lending a buffer in parts -/

section Lend
variable (c : Dev nD) (q : PosShare TreeShare) (X : KVt F)

/-- A buffer's two halves are disjoint and make it up. -/
theorem halves_disjoint : Disjoint rLo.set rHi.set := by
  rw [Finset.disjoint_left]
  intro i h h'
  have h1 := (Rect.mem_set_unit.mp h 1).2
  have h2 := (Rect.mem_set_unit.mp h' 1).1
  simp only [Matrix.cons_val_one, Matrix.cons_val_zero] at h1 h2
  have : (i 1).val < 0 + 1024 := h1
  have : 1024 ≤ (i 1).val := h2
  omega
theorem halves_union : rLo.set ∪ rHi.set = Finset.univ := by
  ext i
  simp only [Finset.mem_union, Finset.mem_univ, iff_true]
  have h0 : (i 0).val < 2 := (i 0).isLt
  have h1 : (i 1).val < 2048 := (i 1).isLt
  have h2 : (i 2).val < 256 := (i 2).isLt
  by_cases h : (i 1).val < 1024
  · left
    refine Rect.mem_set_unit.mpr fun a => ?_
    fin_cases a
    · exact ⟨Nat.zero_le _, by show (i 0).val < 0 + 2; omega⟩
    · exact ⟨Nat.zero_le _, by show (i 1).val < 0 + 1024; omega⟩
    · exact ⟨Nat.zero_le _, by show (i 2).val < 0 + 256; omega⟩
  · right
    refine Rect.mem_set_unit.mpr fun a => ?_
    fin_cases a
    · exact ⟨Nat.zero_le _, by show (i 0).val < 0 + 2; omega⟩
    · exact ⟨by show 1024 ≤ (i 1).val; omega, by show (i 1).val < 1024 + 1024; omega⟩
    · exact ⟨Nat.zero_le _, by show (i 2).val < 0 + 256; omega⟩

/-- A share of a buffer is the same share of its two halves. -/
theorem pt_halves (b : Memref sig .tc .vmem S2x2048x256 .bf16) (X : Buf (Elt F) (b.view.loc (c : Thread nD τ))) :
    pt b q c X ⊣⊢ iprop(pt (lo b) q c X ∗ pt (hi b) q c X) := by
  have hlo : (lo b).view.set = rLo.set.map b.view.emb := View.set_slice _ _
  have hhi : (hi b).view.set = rHi.set.map b.view.emb := View.set_slice _ _
  have hu : b.view.set = (lo b).view.set ∪ (hi b).view.set := by
    rw [hlo, hhi, ← Finset.map_union, halves_union]; rfl
  have hd : Disjoint (lo b).view.set (hi b).view.set := by
    rw [hlo, hhi]; exact (Finset.disjoint_map _).mpr halves_disjoint
  show (b.view.loc (c : Thread nD τ) ↦[b.view.set]{q} X : sProp 𝕄) ⊣⊢ _
  rw [hu]
  exact pointsTo_union (ℓ := b.view.loc (c : Thread nD τ)) hd

/-- Elements held at a share are held at its left and at its right part. -/
theorem pt_share {s : Shape} {e : EltTy} (b : Memref sig .tc .vmem s e) (X : Buf (Elt F) (b.view.loc (c : Thread nD τ))) :
    pt b q c X ⊣⊢ iprop(pt b q.left c X ∗ pt b q.right c X) :=
  pointsTo_share (PosShare.mem_left_op_right q)

/-- A load's elements are among the buffer's. -/
theorem incl {s : Shape} {e : EltTy} (b : Memref sig .tc .vmem s e) (r : LoadRect s) : b.view.setOn r.set ⊆ b.view.set :=
  View.setOn_subset_set _ _

end Lend

end Cert.KernelIdeal.Attn

end
-- ==== Proof.Loads.lean ====
/-
The pieces of the program that only load and compute. Each runs from a share of the buffers it reads
back to the same share, and passes on what the steps of `Spec` keep.
-/
module

public import proofs.«01_k».proof.Proof.Spec
public import proofs.«01_k».proof.Proof.Rules

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The piece of program `p` of device `c` runs from `P` to `P'` and returns `r`, whatever comes after. -/
def Runs (c : Dev nD) {β : Type} (P P' : sProp 𝕄) (p : Prog (TpuEff nD τ sig (Elt F) Λ₀ .tc) β) (r : β) : Prop :=
  ∀ {α : Type} (Q : α → sProp 𝕄) (kk : β → Prog (TpuEff nD τ sig (Elt F) Λ₀ .tc) α),
    P ⊢ iprop((P' -∗ wp frame (wpE (defs₀ (F := F)) 𝒱₀ (c : Thread nD τ) none) Set.univ (kk r) Q)
      -∗ wp frame (wpE (defs₀ (F := F)) 𝒱₀ (c : Thread nD τ) none) Set.univ (p >>= kk) Q)

/-- One chunk's rows of slot `p`, as loaded. -/
def raw (p : Fin 2) (t : Fin 4) (X : KVt F) : Vec F S1x512x256 .bf16 :=
  b0.view.readAt (Elt F) (Rect.unit (s := S2x2048x256) ![p.val, 512 * t.val, 0] S1x512x256.size (inb_chunk p t)).toLoadRect X

variable (m : (ℓ : Loc nD τ sig) → Buf (Elt F) ℓ) (c : Dev nD) (q : PosShare TreeShare)

/-- Chunks 1 and 2, and the loads of chunk 3. -/
theorem run_part4 : Runs c (pt b0 q c (KV m (src c 0))) (pt b0 q c (KV m (src c 0)))
    (k0_part4 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 1).M (st m c 1).l (st m c 1).a (vc m c 1) (sAt m c 1))
    ⟨(st m c 3).M, (st m c 3).l, (st m c 3).a, (kc m c 3), (vc m c 3)⟩ := by
  intro α Q kk
  simp only [k0_part4_eq_skeleton]; unfold k0_part4_skel
  simp only [Prog.lift, Prog.bind_op, Prog.bind_ret, Prog.pure_eq_ret]
  iintro H Hk
  iterate 4 (iapply (wp_load 𝒱₀ (c : Thread nD τ) none Set.univ (m := b0) (incl _ _)) $$ H; iintro H)
  iapply Hk $$ H

/-- Chunks 4 and 5, and the loads of chunk 6. -/
theorem run_part7 : Runs c (pt b1 q c (KV m (src c 1))) (pt b1 q c (KV m (src c 1)))
    (k0_part7 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 4).M (st m c 4).l (st m c 4).a (vc m c 4) (sAt m c 4))
    ⟨(st m c 6).M, (st m c 6).l, (st m c 6).a, (kc m c 6), (vc m c 6)⟩ := by
  intro α Q kk
  simp only [k0_part7_eq_skeleton]; unfold k0_part7_skel
  simp only [Prog.lift, Prog.bind_op, Prog.bind_ret, Prog.pure_eq_ret]
  iintro H Hk
  iterate 4 (iapply (wp_load 𝒱₀ (c : Thread nD τ) none Set.univ (m := b1) (incl _ _)) $$ H; iintro H)
  iapply Hk $$ H

/-- Chunks 6 and 7, and the first load of chunk 8. -/
theorem run_part8 : Runs c (iprop(pt b1 q c (KV m (src c 1)) ∗ pt b2 q c (KV m (src c 2)))) (iprop(pt b1 q c (KV m (src c 1)) ∗ pt b2 q c (KV m (src c 2))))
    (k0_part8 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 6).M (st m c 6).l (st m c 6).a (kc m c 6) (vc m c 6))
    ⟨(st m c 8).M, (st m c 8).l, (st m c 8).a, (kc m c 8)⟩ := by
  intro α Q kk
  simp only [k0_part8_eq_skeleton]; unfold k0_part8_skel
  simp only [Prog.lift, Prog.bind_op, Prog.bind_ret, Prog.pure_eq_ret]
  iintro ⟨H1, H2⟩ Hk
  iterate 2 (iapply (wp_load 𝒱₀ (c : Thread nD τ) none Set.univ (m := b1) (incl _ _)) $$ H1; iintro H1)
  iapply (wp_load 𝒱₀ (c : Thread nD τ) none Set.univ (m := b2) (incl _ _)) $$ H2; iintro H2
  iapply Hk
  isplitl [H1]; · iexact H1
  iexact H2

/-- Chunks 8 and 9, and the first load of chunk 10. -/
theorem run_part9 : Runs c (pt b2 q c (KV m (src c 2))) (pt b2 q c (KV m (src c 2)))
    (k0_part9 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 8).M (st m c 8).l (st m c 8).a (kc m c 8))
    ⟨(st m c 10).M, (st m c 10).l, (st m c 10).a, (kc m c 10)⟩ := by
  intro α Q kk
  simp only [k0_part9_eq_skeleton]; unfold k0_part9_skel
  simp only [Prog.lift, Prog.bind_op, Prog.bind_ret, Prog.pure_eq_ret]
  iintro H Hk
  iterate 4 (iapply (wp_load 𝒱₀ (c : Thread nD τ) none Set.univ (m := b2) (incl _ _)) $$ H; iintro H)
  iapply Hk $$ H

/-- Chunks 10 and 11, and the first load of chunk 12. -/
theorem run_part10 : Runs c (iprop(pt b2 q c (KV m (src c 2)) ∗ pt b3 q c (KV m (src c 3)))) (iprop(pt b2 q c (KV m (src c 2)) ∗ pt b3 q c (KV m (src c 3))))
    (k0_part10 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 10).M (st m c 10).l (st m c 10).a (kc m c 10))
    ⟨(st m c 12).M, (st m c 12).l, (st m c 12).a, (raw 0 0 (KV m (opp c)))⟩ := by
  intro α Q kk
  simp only [k0_part10_eq_skeleton]; unfold k0_part10_skel
  simp only [Prog.lift, Prog.bind_op, Prog.bind_ret, Prog.pure_eq_ret]
  iintro ⟨H1, H2⟩ Hk
  iterate 3 (iapply (wp_load 𝒱₀ (c : Thread nD τ) none Set.univ (m := b2) (incl _ _)) $$ H1; iintro H1)
  iapply (wp_load 𝒱₀ (c : Thread nD τ) none Set.univ (m := b3) (incl _ _)) $$ H2; iintro H2
  iapply Hk
  isplitl [H1]; · iexact H1
  iexact H2

/-- Chunks 12 and 13. -/
theorem run_part11 : Runs c (pt b3 q c (KV m (src c 3))) (pt b3 q c (KV m (src c 3)))
    (k0_part11 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 12).M (st m c 12).l (st m c 12).a (raw 0 0 (KV m (opp c))))
    ⟨(st m c 14).M, (st m c 14).l, (st m c 14).a⟩ := by
  intro α Q kk
  simp only [k0_part11_eq_skeleton]; unfold k0_part11_skel
  simp only [Prog.lift, Prog.bind_op, Prog.bind_ret, Prog.pure_eq_ret]
  iintro H Hk
  iterate 3 (iapply (wp_load 𝒱₀ (c : Thread nD τ) none Set.univ (m := b3) (incl _ _)) $$ H; iintro H)
  iapply Hk $$ H

/-- Chunks 14 and 15. -/
theorem run_part12 : Runs c (pt b3 q c (KV m (src c 3))) (pt b3 q c (KV m (src c 3)))
    (k0_part12 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 14).M (st m c 14).l (st m c 14).a)
    ⟨(st m c 16).M, (st m c 16).l, (st m c 16).a⟩ := by
  intro α Q kk
  simp only [k0_part12_eq_skeleton]; unfold k0_part12_skel
  simp only [Prog.lift, Prog.bind_op, Prog.bind_ret, Prog.pure_eq_ret]
  iintro H Hk
  iterate 4 (iapply (wp_load 𝒱₀ (c : Thread nD τ) none Set.univ (m := b3) (incl _ _)) $$ H; iintro H)
  iapply Hk $$ H

/-- Chunk 17, and chunk 18 as far as its weights. -/
theorem run_part15 : Runs c (pt b4 q c (KV m (src c 4))) (pt b4 q c (KV m (src c 4)))
    (k0_part15 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 17).M (st m c 17).l (scaleA (st m c 16).a (cAt m c 16)) (weighted (pAt m c 16) (vc m c 16)))
    ⟨(vc m c 18), (st m c 19).M, (pAt m c 18), (st m c 19).l, (scaleA (st m c 18).a (cAt m c 18))⟩ := by
  intro α Q kk
  simp only [k0_part15_eq_skeleton]; unfold k0_part15_skel
  simp only [Prog.lift, Prog.bind_op, Prog.bind_ret, Prog.pure_eq_ret]
  iintro H Hk
  iterate 4 (iapply (wp_load 𝒱₀ (c : Thread nD τ) none Set.univ (m := b4) (incl _ _)) $$ H; iintro H)
  iapply Hk $$ H

/-- The rest of chunk 18, chunk 19, and chunk 20 as far as its sum of weights. -/
theorem run_part16 : Runs c (iprop(pt b4 q c (KV m (src c 4)) ∗ pt b5 q c (KV m (src c 5)))) (iprop(pt b4 q c (KV m (src c 4)) ∗ pt b5 q c (KV m (src c 5))))
    (k0_part16 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (vc m c 18) (st m c 19).M (pAt m c 18) (st m c 19).l (scaleA (st m c 18).a (cAt m c 18)))
    ⟨(st m c 20).a, (vc m c 20), (st m c 21).M, (pAt m c 20), (cAt m c 20), (st m c 21).l⟩ := by
  intro α Q kk
  simp only [k0_part16_eq_skeleton]; unfold k0_part16_skel
  simp only [Prog.lift, Prog.bind_op, Prog.bind_ret, Prog.pure_eq_ret]
  iintro ⟨H1, H2⟩ Hk
  iterate 2 (iapply (wp_load 𝒱₀ (c : Thread nD τ) none Set.univ (m := b4) (incl _ _)) $$ H1; iintro H1)
  iterate 2 (iapply (wp_load 𝒱₀ (c : Thread nD τ) none Set.univ (m := b5) (incl _ _)) $$ H2; iintro H2)
  iapply Hk
  isplitl [H1]; · iexact H1
  iexact H2

/-- The rest of chunk 20, chunk 21, and chunk 22 as far as its weights. -/
theorem run_part17 : Runs c (pt b5 q c (KV m (src c 5))) (pt b5 q c (KV m (src c 5)))
    (k0_part17 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 20).a (vc m c 20) (st m c 21).M (pAt m c 20) (cAt m c 20) (st m c 21).l)
    ⟨(st m c 22).a, (vc m c 22), (st m c 23).M, (pAt m c 22), (cAt m c 22), (scaleL (st m c 22).l (cAt m c 22)), (rowSum (pAt m c 22))⟩ := by
  intro α Q kk
  simp only [k0_part17_eq_skeleton]; unfold k0_part17_skel
  simp only [Prog.lift, Prog.bind_op, Prog.bind_ret, Prog.pure_eq_ret]
  iintro H Hk
  iterate 4 (iapply (wp_load 𝒱₀ (c : Thread nD τ) none Set.univ (m := b5) (incl _ _)) $$ H; iintro H)
  iapply Hk $$ H

/-- The rest of chunk 22, chunk 23, and chunk 24 as far as its weights. -/
theorem run_part18 : Runs c (iprop(pt b5 q c (KV m (src c 5)) ∗ pt b6 q c (KV m (src c 6)))) (iprop(pt b5 q c (KV m (src c 5)) ∗ pt b6 q c (KV m (src c 6))))
    (k0_part18 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 22).a (vc m c 22) (st m c 23).M (pAt m c 22) (cAt m c 22) (scaleL (st m c 22).l (cAt m c 22)) (rowSum (pAt m c 22)))
    ⟨(st m c 24).a, (vc m c 24), (st m c 25).M, (pAt m c 24), (cAt m c 24), (scaleL (st m c 24).l (cAt m c 24))⟩ := by
  intro α Q kk
  simp only [k0_part18_eq_skeleton]; unfold k0_part18_skel
  simp only [Prog.lift, Prog.bind_op, Prog.bind_ret, Prog.pure_eq_ret]
  iintro ⟨H1, H2⟩ Hk
  iterate 2 (iapply (wp_load 𝒱₀ (c : Thread nD τ) none Set.univ (m := b5) (incl _ _)) $$ H1; iintro H1)
  iterate 2 (iapply (wp_load 𝒱₀ (c : Thread nD τ) none Set.univ (m := b6) (incl _ _)) $$ H2; iintro H2)
  iapply Hk
  isplitl [H1]; · iexact H1
  iexact H2

/-- The rest of chunk 24, chunk 25, and chunk 26 as far as its weights. -/
theorem run_part19 : Runs c (pt b6 q c (KV m (src c 6))) (pt b6 q c (KV m (src c 6)))
    (k0_part19 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 24).a (vc m c 24) (st m c 25).M (pAt m c 24) (cAt m c 24) (scaleL (st m c 24).l (cAt m c 24)))
    ⟨(st m c 26).l, (st m c 26).a, (vc m c 26), (st m c 27).M, (pAt m c 26), (subf (st m c 26).M (st m c 27).M)⟩ := by
  intro α Q kk
  simp only [k0_part19_eq_skeleton]; unfold k0_part19_skel
  simp only [Prog.lift, Prog.bind_op, Prog.bind_ret, Prog.pure_eq_ret]
  iintro H Hk
  iterate 4 (iapply (wp_load 𝒱₀ (c : Thread nD τ) none Set.univ (m := b6) (incl _ _)) $$ H; iintro H)
  iapply Hk $$ H

/-- Chunks 29 and 30, and the loads of chunk 31. -/
theorem run_part22 : Runs c (pt b7 q c (KV m (src c 7))) (pt b7 q c (KV m (src c 7)))
    (k0_part22 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 29).M (st m c 29).l (st m c 29).a (vc m c 29) (sAt m c 29))
    ⟨(st m c 31).M, (st m c 31).l, (st m c 31).a, (kc m c 31), (vc m c 31), (constant S2048x512 .f32 0x00000000#32)⟩ := by
  intro α Q kk
  simp only [k0_part22_eq_skeleton]; unfold k0_part22_skel
  simp only [Prog.lift, Prog.bind_op, Prog.bind_ret, Prog.pure_eq_ret]
  iintro H Hk
  iterate 4 (iapply (wp_load 𝒱₀ (c : Thread nD τ) none Set.univ (m := b7) (incl _ _)) $$ H; iintro H)
  iapply Hk $$ H

end Cert.KernelIdeal.Attn

end
-- ==== Proof.Comm.lean ====
/-
The pieces of the program that signal, transfer or wait, each run once at a symbolic device: what
it needs of the protocol's tokens and buffers, and what it leaves.
-/
module

public import proofs.«01_k».proof.Proof.Loads

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 9) → ℕ) (c : Dev nD)

/-- What device `c` needs to wait for transfer `i` to arrive, and to wait for its own to be sent. -/
abbrev recvTok (i : Fin 9) : sProp 𝕄 := iprop(cred (tallyAt (recvCell i c) () (amt i)) ∗ atPos ER (recvCell i c) 0 ∅ 0)
abbrev sentTok (i : Fin 9) : sProp 𝕄 := iprop(cred (tallyAt (sendCell i c) () (amt i)) ∗ atPos ER (sendCell i c) 0 ∅ 0)

/-- What a transfer of a whole buffer, and of half a buffer, adds to its semaphores. -/
theorem amt_full (i : Fin 9) (h : i.val < 5) : b1.view.dmaCredit = amt i := (if_pos h).symm
theorem amt_half (i : Fin 9) (h : ¬ i.val < 5) : (lo b6).view.dmaCredit = amt i := (if_neg h).symm

/-- What arrives with each transfer, by the device it comes from; what came both ways round the ring is the same device's. -/
theorem arrive0 : (recvPay 0 c (KV m (org 0 (frm 0 c))) : sProp 𝕄) = pt b1 fullShare c (KV m (src c 1)) := rfl
theorem arrive1 : (recvPay 1 c (KV m (org 1 (frm 1 c))) : sProp 𝕄) = pt b2 fullShare c (KV m (src c 2)) := rfl
theorem arrive2 : (recvPay 2 c (KV m (org 2 (frm 2 c))) : sProp 𝕄) = pt b3 fullShare c (KV m (src c 3)) := rfl
theorem arrive3 : (recvPay 3 c (KV m (org 3 (frm 3 c))) : sProp 𝕄) = pt b4 fullShare c (KV m (src c 4)) := rfl
theorem arrive4 : (recvPay 4 c (KV m (org 4 (frm 4 c))) : sProp 𝕄) = pt b5 fullShare c (KV m (src c 5)) := rfl
theorem arrive5 : (recvPay 5 c (KV m (org 5 (frm 5 c))) : sProp 𝕄) = pt (lo b6) fullShare c (KV m (src c 6)) := rfl
theorem arrive6 : (recvPay 6 c (KV m (org 6 (frm 6 c))) : sProp 𝕄) = pt (hi b6) fullShare c (KV m (src c 6)) := congrArg (fun d => pt (hi b6) fullShare c (KV m d)) (lft_lft c).symm
theorem arrive7 : (recvPay 7 c (KV m (org 7 (frm 7 c))) : sProp 𝕄) = pt (lo b7) fullShare c (KV m (src c 7)) := rfl
theorem arrive8 : (recvPay 8 c (KV m (org 8 (frm 8 c))) : sProp 𝕄) = pt (hi b7) fullShare c (KV m (src c 7)) := congrArg (fun d => pt (hi b7) fullShare c (KV m (opp d))) (lft_lft c).symm

/-- Transfers 1 and 2, chunk 0, and chunk 1 as far as its scores. -/
theorem run_part3 (w w₁ w₂ : BitVec 32) : Runs c
    iprop(known m K ∗ ow c (rem c [1, 2, 3, 4, 5, 6, 7, 8]) ∗ land 1 (tgt 1 c) ∗ land 2 (tgt 2 c) ∗ sendToks 1 c ∗ sendToks 2 c ∗ pt b0 fullShare.left c (KV m c) ∗ pt b0 fullShare.right.right c (KV m c))
    iprop(ow c (rem c [3, 4, 5, 6, 7, 8]) ∗ cred (tallyAt (sendCell 1 c) () (amt 1)) ∗ cred (tallyAt (sendCell 2 c) () (amt 2)) ∗ pt b0 fullShare.left c (KV m c))
    (k0_part3 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 c w (qs m c) (st m c 0).M (st m c 0).l (st m c 0).a w₁ w₂)
    ⟨(st m c 1).M, (st m c 1).l, (st m c 1).a, (vc m c 1), (sAt m c 1)⟩ := by
  intro α Q kk
  simp only [k0_part3_eq_skeleton]; unfold k0_part3_skel
  simp only [Prog.lift, Prog.bind_op, Prog.bind_ret, Prog.pure_eq_ret]
  iintro ⟨#Hk, HO, HL1, HL2, Ht1, Ht2, H, HR⟩ Hc
  icases ((pt_share c fullShare.right.right b0 (KV m c)).1) $$ HR with ⟨HR1, HR2⟩
  iapply (wp_xfer m K c 1 [2, 3, 4, 5, 6, 7, 8] (src := b0) (dst := b2) (X := KV m (org 1 c)) (Y := KV m (org 1 c)) (amt_full 1 (by decide)) rfl rfl rfl (fun fd j _ => write_02 fd _ j) (dev5_eq c) rfl rfl) $$ [HR1 HL1 HO Ht1]
  · isplitr; · iexact Hk
    isplitl [HR1]; · iexact HR1
    isplitl [HL1]; · iexact HL1
    isplitl [HO]; · iexact HO
    iexact Ht1
  iintro ⟨Hs1, HO⟩
  iapply (wp_xfer m K c 2 [3, 4, 5, 6, 7, 8] (src := b0) (dst := b3) (X := KV m (org 2 c)) (Y := KV m (org 2 c)) (amt_full 2 (by decide)) rfl rfl rfl (fun fd j _ => write_03 fd _ j) (dev6_eq c) rfl rfl) $$ [HR2 HL2 HO Ht2]
  · isplitr; · iexact Hk
    isplitl [HR2]; · iexact HR2
    isplitl [HL2]; · iexact HL2
    isplitl [HO]; · iexact HO
    iexact Ht2
  iintro ⟨Hs2, HO⟩
  iterate 4 (iapply (wp_load 𝒱₀ (c : Thread nD τ) none Set.univ (m := b0) (incl _ _)) $$ H; iintro H)
  iapply Hc
  isplitl [HO]; · iexact HO
  isplitl [Hs1]; · iexact Hs1
  isplitl [Hs2]; · iexact Hs2
  iexact H

/-- The arrivals of transfers 0, 1 and 2, transfer 3, and chunk 3. -/
theorem run_part5 (w₁ w₂ w₃ : BitVec 32) : Runs c
    iprop(known m K ∗ ow c (rem c [3, 4, 5, 6, 7, 8]) ∗ recvTok c 0 ∗ recvTok c 1 ∗ recvTok c 2 ∗ land 3 (tgt 3 c) ∗ sendToks 3 c)
    iprop(ow c (rem c [4, 5, 6, 7, 8]) ∗ semVal (recvCell 0 c) 0 ∗ semVal (recvCell 1 c) 0 ∗ semVal (recvCell 2 c) 0 ∗ pt b1 fullShare c (KV m (src c 1)) ∗ pt b2 fullShare c (KV m (src c 2)) ∗ pt b3 fullShare.left c (KV m (src c 3)) ∗ pt b3 fullShare.right.right c (KV m (src c 3)) ∗ cred (tallyAt (sendCell 3 c) () (amt 3)))
    (k0_part5 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 c w₁ w₂ w₃ (qs m c) (st m c 3).M (st m c 3).l (st m c 3).a (kc m c 3) (vc m c 3))
    ⟨(st m c 4).M, (st m c 4).l, (st m c 4).a⟩ := by
  intro α Q kk
  simp only [k0_part5_eq_skeleton]; unfold k0_part5_skel
  simp only [Prog.lift, Prog.bind_op, Prog.bind_ret, Prog.pure_eq_ret]
  iintro ⟨#Hk, HO, Hr0, Hr1, Hr2, HL3, Ht3⟩ Hc
  iapply (wp_recv m K c 0 (rem c [3, 4, 5, 6, 7, 8]) (above_rem c _ (by decide)) (dst := b1) (amt_full 0 (by decide)) rfl) $$ [Hr0 HO]
  · isplitr; · iexact Hk
    icases Hr0 with ⟨Hc1, Hc2⟩
    isplitl [Hc1]; · iexact Hc1
    isplitl [HO]; · iexact HO
    iexact Hc2
  iintro ⟨HO, Hz0, Hp⟩
  ihave H1 := (Entails.of_eq (arrive0 m c)) $$ Hp
  iapply (wp_recv m K c 1 (rem c [3, 4, 5, 6, 7, 8]) (above_rem c _ (by decide)) (dst := b2) (amt_full 1 (by decide)) rfl) $$ [Hr1 HO]
  · isplitr; · iexact Hk
    icases Hr1 with ⟨Hc1, Hc2⟩
    isplitl [Hc1]; · iexact Hc1
    isplitl [HO]; · iexact HO
    iexact Hc2
  iintro ⟨HO, Hz1, Hp⟩
  ihave H2 := (Entails.of_eq (arrive1 m c)) $$ Hp
  iapply (wp_recv m K c 2 (rem c [3, 4, 5, 6, 7, 8]) (above_rem c _ (by decide)) (dst := b3) (amt_full 2 (by decide)) rfl) $$ [Hr2 HO]
  · isplitr; · iexact Hk
    icases Hr2 with ⟨Hc1, Hc2⟩
    isplitl [Hc1]; · iexact Hc1
    isplitl [HO]; · iexact HO
    iexact Hc2
  iintro ⟨HO, Hz2, Hp⟩
  ihave H3 := (Entails.of_eq (arrive2 m c)) $$ Hp
  icases ((pt_share c fullShare b3 (KV m (src c 3))).1) $$ H3 with ⟨H3l, H3r⟩
  icases ((pt_share c fullShare.right b3 (KV m (src c 3))).1) $$ H3r with ⟨H3a, H3b⟩
  iapply (wp_xfer m K c 3 [4, 5, 6, 7, 8] (src := b3) (dst := b4) (X := KV m (org 3 c)) (Y := KV m (org 3 c)) (amt_full 3 (by decide)) rfl rfl rfl (fun fd j _ => write_34 fd _ j) (dev7_eq c) rfl rfl) $$ [H3a HL3 HO Ht3]
  · isplitr; · iexact Hk
    isplitl [H3a]; · iexact H3a
    isplitl [HL3]; · iexact HL3
    isplitl [HO]; · iexact HO
    iexact Ht3
  iintro ⟨Hs3, HO⟩
  iapply Hc
  isplitl [HO]; · iexact HO
  isplitl [Hz0]; · iexact Hz0
  isplitl [Hz1]; · iexact Hz1
  isplitl [Hz2]; · iexact Hz2
  isplitl [H1]; · iexact H1
  isplitl [H2]; · iexact H2
  isplitl [H3l]; · iexact H3l
  isplitl [H3b]; · iexact H3b
  iexact Hs3

/-- Transfers 4, 5 and 6, and chunk 4 as far as its scores. -/
theorem run_part6 (w₁ w₂ : BitVec 32) : Runs c
    iprop(known m K ∗ ow c (rem c [4, 5, 6, 7, 8]) ∗ land 4 (tgt 4 c) ∗ land 5 (tgt 5 c) ∗ land 6 (tgt 6 c) ∗ sendToks 4 c ∗ sendToks 5 c ∗ sendToks 6 c ∗ pt b3 fullShare.right.right c (KV m (src c 3)) ∗ pt b1 fullShare c (KV m (src c 1)) ∗ pt b2 fullShare c (KV m (src c 2)))
    iprop(ow c (rem c [7, 8]) ∗ cred (tallyAt (sendCell 4 c) () (amt 4)) ∗ cred (tallyAt (sendCell 5 c) () (amt 5)) ∗ cred (tallyAt (sendCell 6 c) () (amt 6)) ∗ pt b1 fullShare.left c (KV m (src c 1)) ∗ pt (hi b1) fullShare.right c (KV m (src c 1)) ∗ pt b2 fullShare.left c (KV m (src c 2)) ∗ pt (lo b2) fullShare.right c (KV m (src c 2)))
    (k0_part6 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 c w₁ w₂ (qs m c))
    ⟨(vc m c 4), (sAt m c 4)⟩ := by
  intro α Q kk
  simp only [k0_part6_eq_skeleton]; unfold k0_part6_skel
  simp only [Prog.lift, Prog.bind_op, Prog.bind_ret, Prog.pure_eq_ret]
  iintro ⟨#Hk, HO, HL4, HL5, HL6, Ht4, Ht5, Ht6, H3, H1, H2⟩ Hc
  icases ((pt_share c fullShare b1 (KV m (src c 1))).1) $$ H1 with ⟨H1l, H1r⟩
  icases ((pt_halves c fullShare.right b1 (KV m (src c 1))).1) $$ H1r with ⟨H1a, H1b⟩
  icases ((pt_share c fullShare b2 (KV m (src c 2))).1) $$ H2 with ⟨H2l, H2r⟩
  icases ((pt_halves c fullShare.right b2 (KV m (src c 2))).1) $$ H2r with ⟨H2a, H2b⟩
  iapply (wp_xfer m K c 4 [5, 6, 7, 8] (src := b3) (dst := b5) (X := KV m (org 4 c)) (Y := KV m (org 4 c)) (amt_full 4 (by decide)) rfl rfl rfl (fun fd j _ => write_35 fd _ j) (dev8_eq c) rfl rfl) $$ [H3 HL4 HO Ht4]
  · isplitr; · iexact Hk
    isplitl [H3]; · iexact H3
    isplitl [HL4]; · iexact HL4
    isplitl [HO]; · iexact HO
    iexact Ht4
  iintro ⟨Hs4, HO⟩
  iapply (wp_xfer m K c 5 [6, 7, 8] (src := (lo b1)) (dst := (lo b6)) (X := KV m (org 5 c)) (Y := KV m (org 5 c)) (amt_half 5 (by decide)) rfl rfl rfl (fun fd => write_lo fd _) (dev9_eq c) rfl rfl) $$ [H1a HL5 HO Ht5]
  · isplitr; · iexact Hk
    isplitl [H1a]; · iexact H1a
    isplitl [HL5]; · iexact HL5
    isplitl [HO]; · iexact HO
    iexact Ht5
  iintro ⟨Hs5, HO⟩
  iapply (wp_xfer m K c 6 [7, 8] (src := (hi b2)) (dst := (hi b6)) (X := KV m (org 6 c)) (Y := KV m (org 6 c)) (amt_half 6 (by decide)) rfl rfl rfl (fun fd => write_hi fd _) (dev10_eq c) rfl rfl) $$ [H2b HL6 HO Ht6]
  · isplitr; · iexact Hk
    isplitl [H2b]; · iexact H2b
    isplitl [HL6]; · iexact HL6
    isplitl [HO]; · iexact HO
    iexact Ht6
  iintro ⟨Hs6, HO⟩
  iterate 2 (iapply (wp_load 𝒱₀ (c : Thread nD τ) none Set.univ (m := b1) (incl _ _)) $$ H1l; iintro H1l)
  iapply Hc
  isplitl [HO]; · iexact HO
  isplitl [Hs4]; · iexact Hs4
  isplitl [Hs5]; · iexact Hs5
  isplitl [Hs6]; · iexact Hs6
  isplitl [H1l]; · iexact H1l
  isplitl [H1b]; · iexact H1b
  isplitl [H2l]; · iexact H2l
  iexact H2a

/-- The arrivals of transfers 3, 4, 5 and 6. -/
theorem run_part13 (w₁ w₂ : BitVec 32) : Runs c
    iprop(known m K ∗ ow c (rem c [7, 8]) ∗ recvTok c 3 ∗ recvTok c 4 ∗ recvTok c 5 ∗ recvTok c 6)
    iprop(ow c (rem c [7, 8]) ∗ semVal (recvCell 3 c) 0 ∗ semVal (recvCell 4 c) 0 ∗ semVal (recvCell 5 c) 0 ∗ semVal (recvCell 6 c) 0 ∗ pt b4 fullShare c (KV m (src c 4)) ∗ pt b5 fullShare c (KV m (src c 5)) ∗ pt b6 fullShare c (KV m (src c 6)))
    (k0_part13 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 w₁ w₂)
    ⟨⟩ := by
  intro α Q kk
  simp only [k0_part13_eq_skeleton]; unfold k0_part13_skel
  simp only [Prog.lift, Prog.bind_op, Prog.bind_ret, Prog.pure_eq_ret]
  iintro ⟨#Hk, HO, Hr3, Hr4, Hr5, Hr6⟩ Hc
  iapply (wp_recv m K c 3 (rem c [7, 8]) (above_rem c _ (by decide)) (dst := b4) (amt_full 3 (by decide)) rfl) $$ [Hr3 HO]
  · isplitr; · iexact Hk
    icases Hr3 with ⟨Hc1, Hc2⟩
    isplitl [Hc1]; · iexact Hc1
    isplitl [HO]; · iexact HO
    iexact Hc2
  iintro ⟨HO, Hz3, Hp⟩
  ihave H4 := (Entails.of_eq (arrive3 m c)) $$ Hp
  iapply (wp_recv m K c 4 (rem c [7, 8]) (above_rem c _ (by decide)) (dst := b5) (amt_full 4 (by decide)) rfl) $$ [Hr4 HO]
  · isplitr; · iexact Hk
    icases Hr4 with ⟨Hc1, Hc2⟩
    isplitl [Hc1]; · iexact Hc1
    isplitl [HO]; · iexact HO
    iexact Hc2
  iintro ⟨HO, Hz4, Hp⟩
  ihave H5 := (Entails.of_eq (arrive4 m c)) $$ Hp
  iapply (wp_recv m K c 5 (rem c [7, 8]) (above_rem c _ (by decide)) (dst := (lo b6)) (amt_half 5 (by decide)) rfl) $$ [Hr5 HO]
  · isplitr; · iexact Hk
    icases Hr5 with ⟨Hc1, Hc2⟩
    isplitl [Hc1]; · iexact Hc1
    isplitl [HO]; · iexact HO
    iexact Hc2
  iintro ⟨HO, Hz5, Hp⟩
  ihave Ha := (Entails.of_eq (arrive5 m c)) $$ Hp
  iapply (wp_recv m K c 6 (rem c [7, 8]) (above_rem c _ (by decide)) (dst := (hi b6)) (amt_half 6 (by decide)) rfl) $$ [Hr6 HO]
  · isplitr; · iexact Hk
    icases Hr6 with ⟨Hc1, Hc2⟩
    isplitl [Hc1]; · iexact Hc1
    isplitl [HO]; · iexact HO
    iexact Hc2
  iintro ⟨HO, Hz6, Hp⟩
  ihave Hb := (Entails.of_eq (arrive6 m c)) $$ Hp
  ihave H6 := ((pt_halves c fullShare b6 (KV m (src c 6))).2) $$ [Ha Hb]
  · isplitl [Ha]; · iexact Ha
    iexact Hb
  iapply Hc
  isplitl [HO]; · iexact HO
  isplitl [Hz3]; · iexact Hz3
  isplitl [Hz4]; · iexact Hz4
  isplitl [Hz5]; · iexact Hz5
  isplitl [Hz6]; · iexact Hz6
  isplitl [H4]; · iexact H4
  isplitl [H5]; · iexact H5
  iexact H6

/-- Transfers 7 and 8, and chunk 16 as far as its weighted values. -/
theorem run_part14 (w : BitVec 32) : Runs c
    iprop(known m K ∗ ow c (rem c [7, 8]) ∗ land 7 (tgt 7 c) ∗ land 8 (tgt 8 c) ∗ sendToks 7 c ∗ sendToks 8 c ∗ pt b4 fullShare c (KV m (src c 4)) ∗ pt b5 fullShare c (KV m (src c 5)))
    iprop(ow c 0 ∗ cred (tallyAt (sendCell 7 c) () (amt 7)) ∗ cred (tallyAt (sendCell 8 c) () (amt 8)) ∗ pt b4 fullShare.left c (KV m (src c 4)) ∗ pt (hi b4) fullShare.right c (KV m (src c 4)) ∗ pt b5 fullShare.left c (KV m (src c 5)) ∗ pt (lo b5) fullShare.right c (KV m (src c 5)))
    (k0_part14 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 c w (qs m c) (st m c 16).M (st m c 16).l (st m c 16).a)
    ⟨(st m c 17).M, (st m c 17).l, (scaleA (st m c 16).a (cAt m c 16)), (weighted (pAt m c 16) (vc m c 16))⟩ := by
  intro α Q kk
  simp only [k0_part14_eq_skeleton]; unfold k0_part14_skel
  simp only [Prog.lift, Prog.bind_op, Prog.bind_ret, Prog.pure_eq_ret]
  iintro ⟨#Hk, HO, HL7, HL8, Ht7, Ht8, H4, H5⟩ Hc
  icases ((pt_share c fullShare b4 (KV m (src c 4))).1) $$ H4 with ⟨H4l, H4r⟩
  icases ((pt_halves c fullShare.right b4 (KV m (src c 4))).1) $$ H4r with ⟨H4a, H4b⟩
  icases ((pt_share c fullShare b5 (KV m (src c 5))).1) $$ H5 with ⟨H5l, H5r⟩
  icases ((pt_halves c fullShare.right b5 (KV m (src c 5))).1) $$ H5r with ⟨H5a, H5b⟩
  iapply (wp_xfer m K c 7 [8] (src := (lo b4)) (dst := (lo b7)) (X := KV m (org 7 c)) (Y := KV m (org 7 c)) (amt_half 7 (by decide)) rfl rfl rfl (fun fd => write_lo fd _) (dev11_eq c) rfl rfl) $$ [H4a HL7 HO Ht7]
  · isplitr; · iexact Hk
    isplitl [H4a]; · iexact H4a
    isplitl [HL7]; · iexact HL7
    isplitl [HO]; · iexact HO
    iexact Ht7
  iintro ⟨Hs7, HO⟩
  iapply (wp_xfer m K c 8 [] (src := (hi b5)) (dst := (hi b7)) (X := KV m (org 8 c)) (Y := KV m (org 8 c)) (amt_half 8 (by decide)) rfl rfl rfl (fun fd => write_hi fd _) (dev12_eq c) rfl rfl) $$ [H5b HL8 HO Ht8]
  · isplitr; · iexact Hk
    isplitl [H5b]; · iexact H5b
    isplitl [HL8]; · iexact HL8
    isplitl [HO]; · iexact HO
    iexact Ht8
  iintro ⟨Hs8, HO⟩
  iterate 2 (iapply (wp_load 𝒱₀ (c : Thread nD τ) none Set.univ (m := b4) (incl _ _)) $$ H4l; iintro H4l)
  iapply Hc
  isplitl [HO]; · iexact HO
  isplitl [Hs7]; · iexact Hs7
  isplitl [Hs8]; · iexact Hs8
  isplitl [H4l]; · iexact H4l
  isplitl [H4b]; · iexact H4b
  isplitl [H5l]; · iexact H5l
  iexact H5a

/-- The rest of chunk 26, chunk 27, and the arrival of transfer 7. -/
theorem run_part20 (w : BitVec 32) : Runs c
    iprop(known m K ∗ ow c 0 ∗ recvTok c 7 ∗ pt b6 fullShare c (KV m (src c 6)))
    iprop(ow c 0 ∗ semVal (recvCell 7 c) 0 ∗ pt b6 fullShare c (KV m (src c 6)) ∗ pt (lo b7) fullShare c (KV m (src c 7)))
    (k0_part20 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 w (qs m c) (st m c 26).l (st m c 26).a (vc m c 26) (st m c 27).M (pAt m c 26) (subf (st m c 26).M (st m c 27).M))
    ⟨(st m c 28).M, (st m c 28).l, (st m c 28).a⟩ := by
  intro α Q kk
  simp only [k0_part20_eq_skeleton]; unfold k0_part20_skel
  simp only [Prog.lift, Prog.bind_op, Prog.bind_ret, Prog.pure_eq_ret]
  iintro ⟨#Hk, HO, Hr7, H6⟩ Hc
  iterate 2 (iapply (wp_load 𝒱₀ (c : Thread nD τ) none Set.univ (m := b6) (incl _ _)) $$ H6; iintro H6)
  iapply (wp_recv m K c 7 (0) (above_zero _) (dst := (lo b7)) (amt_half 7 (by decide)) rfl) $$ [Hr7 HO]
  · isplitr; · iexact Hk
    icases Hr7 with ⟨Hc1, Hc2⟩
    isplitl [Hc1]; · iexact Hc1
    isplitl [HO]; · iexact HO
    iexact Hc2
  iintro ⟨HO, Hz7, Hp⟩
  ihave Ha := (Entails.of_eq (arrive7 m c)) $$ Hp
  iapply Hc
  isplitl [HO]; · iexact HO
  isplitl [Hz7]; · iexact Hz7
  isplitl [H6]; · iexact H6
  iexact Ha

/-- The arrival of transfer 8, chunk 28, and chunk 29 as far as its scores. -/
theorem run_part21 (w : BitVec 32) : Runs c
    iprop(known m K ∗ ow c 0 ∗ recvTok c 8 ∗ pt (lo b7) fullShare c (KV m (src c 7)))
    iprop(ow c 0 ∗ semVal (recvCell 8 c) 0 ∗ pt b7 fullShare c (KV m (src c 7)))
    (k0_part21 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 w (qs m c) (st m c 28).M (st m c 28).l (st m c 28).a)
    ⟨(st m c 29).M, (st m c 29).l, (st m c 29).a, (vc m c 29), (sAt m c 29)⟩ := by
  intro α Q kk
  simp only [k0_part21_eq_skeleton]; unfold k0_part21_skel
  simp only [Prog.lift, Prog.bind_op, Prog.bind_ret, Prog.pure_eq_ret]
  iintro ⟨#Hk, HO, Hr8, Ha⟩ Hc
  iapply (wp_recv m K c 8 (0) (above_zero _) (dst := (hi b7)) (amt_half 8 (by decide)) rfl) $$ [Hr8 HO]
  · isplitr; · iexact Hk
    icases Hr8 with ⟨Hc1, Hc2⟩
    isplitl [Hc1]; · iexact Hc1
    isplitl [HO]; · iexact HO
    iexact Hc2
  iintro ⟨HO, Hz8, Hp⟩
  ihave Hb := (Entails.of_eq (arrive8 m c)) $$ Hp
  ihave H7 := ((pt_halves c fullShare b7 (KV m (src c 7))).2) $$ [Ha Hb]
  · isplitl [Ha]; · iexact Ha
    iexact Hb
  iterate 4 (iapply (wp_load 𝒱₀ (c : Thread nD τ) none Set.univ (m := b7) (incl _ _)) $$ H7; iintro H7)
  iapply Hc
  isplitl [HO]; · iexact HO
  isplitl [Hz8]; · iexact Hz8
  iexact H7

/-- Chunk 31, and the waits for transfers 0 to 4 to have been sent. -/
theorem run_part23 : Runs c
    iprop(known m K ∗ ow c 0 ∗ sentTok c 0 ∗ sentTok c 1 ∗ sentTok c 2 ∗ sentTok c 3 ∗ sentTok c 4)
    iprop(ow c 0 ∗ semVal (sendCell 0 c) 0 ∗ semVal (sendCell 1 c) 0 ∗ semVal (sendCell 2 c) 0 ∗ semVal (sendCell 3 c) 0 ∗ semVal (sendCell 4 c) 0 ∗ sendPay 0 c (KV m (org 0 c)) ∗ sendPay 1 c (KV m (org 1 c)) ∗ sendPay 2 c (KV m (org 2 c)) ∗ sendPay 3 c (KV m (org 3 c)) ∗ sendPay 4 c (KV m (org 4 c)))
    (k0_part23 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 (qs m c) (st m c 31).M (st m c 31).l (st m c 31).a (kc m c 31) (vc m c 31) (constant S2048x512 .f32 0x00000000#32))
    ⟨(st m c 32).l, (st m c 32).a⟩ := by
  intro α Q kk
  simp only [k0_part23_eq_skeleton]; unfold k0_part23_skel
  simp only [Prog.lift, Prog.bind_op, Prog.bind_ret, Prog.pure_eq_ret]
  iintro ⟨#Hk, HO, Hs0, Hs1, Hs2, Hs3, Hs4⟩ Hc
  iapply (wp_sent m K c 0 (dst := b0) (amt_full 0 (by decide)) rfl) $$ [Hs0 HO]
  · isplitr; · iexact Hk
    icases Hs0 with ⟨Hc1, Hc2⟩
    isplitl [Hc1]; · iexact Hc1
    isplitl [HO]; · iexact HO
    iexact Hc2
  iintro ⟨HO, Hz0, H0⟩
  iapply (wp_sent m K c 1 (dst := b0) (amt_full 1 (by decide)) rfl) $$ [Hs1 HO]
  · isplitr; · iexact Hk
    icases Hs1 with ⟨Hc1, Hc2⟩
    isplitl [Hc1]; · iexact Hc1
    isplitl [HO]; · iexact HO
    iexact Hc2
  iintro ⟨HO, Hz1, H1⟩
  iapply (wp_sent m K c 2 (dst := b0) (amt_full 2 (by decide)) rfl) $$ [Hs2 HO]
  · isplitr; · iexact Hk
    icases Hs2 with ⟨Hc1, Hc2⟩
    isplitl [Hc1]; · iexact Hc1
    isplitl [HO]; · iexact HO
    iexact Hc2
  iintro ⟨HO, Hz2, H2⟩
  iapply (wp_sent m K c 3 (dst := b3) (amt_full 3 (by decide)) rfl) $$ [Hs3 HO]
  · isplitr; · iexact Hk
    icases Hs3 with ⟨Hc1, Hc2⟩
    isplitl [Hc1]; · iexact Hc1
    isplitl [HO]; · iexact HO
    iexact Hc2
  iintro ⟨HO, Hz3, H3⟩
  iapply (wp_sent m K c 4 (dst := b3) (amt_full 4 (by decide)) rfl) $$ [Hs4 HO]
  · isplitr; · iexact Hk
    icases Hs4 with ⟨Hc1, Hc2⟩
    isplitl [Hc1]; · iexact Hc1
    isplitl [HO]; · iexact HO
    iexact Hc2
  iintro ⟨HO, Hz4, H4⟩
  iapply Hc
  isplitl [HO]; · iexact HO
  isplitl [Hz0]; · iexact Hz0
  isplitl [Hz1]; · iexact Hz1
  isplitl [Hz2]; · iexact Hz2
  isplitl [Hz3]; · iexact Hz3
  isplitl [Hz4]; · iexact Hz4
  isplitl [H0]; · iexact H0
  isplitl [H1]; · iexact H1
  isplitl [H2]; · iexact H2
  isplitl [H3]; · iexact H3
  iexact H4

end Cert.KernelIdeal.Attn

end
-- ==== Proof.Start.lean ====
/-
The first two pieces of the program: the three signals and the wait for three, the device's own keys and
values placed side by side in its first buffer, and transfer 0.
-/
module

public import proofs.«01_k».proof.Proof.Comm

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 9) → ℕ) (c : Dev nD)

/-! ## The device's own keys and values -/

/-- The two slots of a buffer. -/
abbrev slot0 : Rect S2x2048x256 := Rect.unit (s := S2x2048x256) ![0, 0, 0] S1x2048x256.size inb_S2x2048x256_S1x2048x256_0_0_0
abbrev slot1 : Rect S2x2048x256 := Rect.unit (s := S2x2048x256) ![1, 0, 0] S1x2048x256.size inb_S2x2048x256_S1x2048x256_1_0_0

theorem slot0_emb (j : S2x2048x256.Idx) (h : (j 0).val = 0) : (b0.access slot0).emb (slotIdx j) = j := by
  funext a; apply Fin.ext; fin_cases a
  · exact h.symm
  · show 0 + 1 * (j 1).val = (j 1).val; omega
  · show 0 + 1 * (j 2).val = (j 2).val; omega
theorem slot1_emb (j : S2x2048x256.Idx) (h : (j 0).val = 1) : (b0.access slot1).emb (slotIdx j) = j := by
  funext a; apply Fin.ext; fin_cases a
  · exact h.symm
  · show 0 + 1 * (j 1).val = (j 1).val; omega
  · show 0 + 1 * (j 2).val = (j 2).val; omega
theorem slot1_not_mem (j : S2x2048x256.Idx) (h : (j 0).val = 0) : j ∉ (b0.access slot1).setOn Finset.univ := by
  intro hj
  obtain ⟨x, -, hx⟩ := Finset.mem_map.mp hj
  have h1 : ((b0.access slot1).emb x 0).val = 1 + 1 * (x 0).val := rfl
  rw [hx, h] at h1
  omega

/-- Both slots written: the buffer holds the device's keys and values. -/
theorem slots_written (f : KVt F) : (b0.access slot1).write (Elt F) ((b0.access slot0).write (Elt F) f (k0_pay2 (kst m c)) Finset.univ) (k0_pay3 (vst m c)) Finset.univ = KV m c := by
  funext j
  have h2 : (j 0).val < 2 := (j 0).isLt
  unfold KV
  by_cases h : (j 0).val = 0
  · rw [if_pos h, View.write_of_not_mem _ _ _ (slot1_not_mem j h)]
    conv_lhs => rw [← slot0_emb j h]
    rw [View.write_emb_of_mem _ _ (Finset.mem_univ _)]
    rfl
  · rw [if_neg h]
    conv_lhs => rw [← slot1_emb j (by omega)]
    rw [View.write_emb_of_mem _ _ (Finset.mem_univ _)]
    rfl

/-! ## The pieces -/

/-- The signals to the right and to the left; what comes after is given the device's number and the
    barrier semaphore, and some words that it does not depend on. -/
theorem run_part1 {α : Type} {Q : α → sProp 𝕄} {kk : _ → Prog (TpuEff nD τ sig (Elt F) Λ₀ .tc) α} {R : sProp 𝕄}
    (h : ∀ w₁ w₂ w₃ : BitVec 32, iprop(ow c (rem c allSends + tallyAt (barCell (opp c)) () 1) ∗ R)
      ⊢ wp frame (wpE (defs₀ (F := F)) 𝒱₀ (c : Thread nD τ) none) Set.univ (kk ⟨c, w₁, w₂, w₃, SemArray.scalar (sig.barrier 0 rfl)⟩) Q) :
    iprop((known m K ∗ ow c (O₀ c) ∗ dutyTok ER (barCell (rgt c)) 0 0 ∗ barPay 0 (rgt c) ∗ dutyTok ER (barCell (lft c)) 0 1 ∗ barPay 1 (lft c)) ∗ R)
      ⊢ wp frame (wpE (defs₀ (F := F)) 𝒱₀ (c : Thread nD τ) none) Set.univ
        (k0_part1 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 >>= kk) Q := by
  simp only [k0_part1_eq_skeleton]; unfold k0_part1_skel
  simp only [semSignalWord, Prog.lift, Prog.bind_op, Prog.bind_ret, Prog.pure_eq_ret, wp_deviceId]
  iintro ⟨⟨#Hk, HO, Ht0, Hp0, Ht1, Hp1⟩, HR⟩
  iapply (wp_sig m K c (rgt c) 0 _ (dev1_eq c)) $$ [HO Ht0 Hp0]
  · isplitr; · iexact Hk
    isplitl [HO]; · iexact HO
    isplitl [Ht0]; · iexact Ht0
    iexact Hp0
  iintro HO
  iapply (wp_sig m K c (lft c) 1 _ (dev2_eq c)) $$ [HO Ht1 Hp1]
  · isplitr; · iexact Hk
    isplitl [HO]; · iexact HO
    isplitl [Ht1]; · iexact Ht1
    iexact Hp1
  iintro HO
  iapply (h _ _ _)
  isplitl [HO]; · iexact HO
  iexact HR

/-- The signal to the opposite device and the wait for three, the device's keys and values and its queries, and transfer 0. -/
theorem run_part2 (w₁ w₂ w₃ : BitVec 32) : Runs c
    iprop(known m K ∗ ow c (rem c allSends + tallyAt (barCell (opp c)) () 1) ∗ dutyTok ER (barCell (opp c)) 0 2 ∗ barPay 2 (opp c) ∗ cred (tallyAt (barCell c) () 3) ∗ atPos ER (barCell c) 0 ∅ 0 ∗ pt (wM cc0_stg0_0) fullShare c (qst m c) ∗ pt (wM cc0_stg1_0) fullShare c (kst m c) ∗ pt (wM cc0_stg2_0) fullShare c (vst m c) ∗ (∃ f : KVt F, pt b0 fullShare c f) ∗ sendToks 0 c)
    iprop(ow c (rem c [1, 2, 3, 4, 5, 6, 7, 8]) ∗ semVal (barCell c) 0 ∗ land 1 (tgt 1 c) ∗ land 2 (tgt 2 c) ∗ land 3 (tgt 3 c) ∗ land 4 (tgt 4 c) ∗ land 5 (tgt 5 c) ∗ land 6 (tgt 6 c) ∗ land 7 (tgt 7 c) ∗ land 8 (tgt 8 c) ∗ pt (wM cc0_stg0_0) fullShare c (qst m c) ∗ pt (wM cc0_stg1_0) fullShare c (kst m c) ∗ pt (wM cc0_stg2_0) fullShare c (vst m c) ∗ pt b0 fullShare.left c (KV m c) ∗ pt b0 fullShare.right.right c (KV m c) ∗ cred (tallyAt (sendCell 0 c) () (amt 0)))
    (k0_part2 (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9 c w₁ w₂ w₃ (SemArray.scalar (sig.barrier 0 rfl)))
    ⟨qs m c, (st m c 0).M, (st m c 0).l, (st m c 0).a, w₂ * 1#32, 0#32⟩ := by
  intro α Q kk
  simp only [k0_part2_eq_skeleton]; unfold k0_part2_skel
  simp only [semSignalWord, semWaitWord, Prog.lift, Prog.bind_op, Prog.bind_ret, Prog.pure_eq_ret]
  iintro ⟨#Hk, HO, Htb, Hpb, Hcb, Hab, Hq, Hkk, Hv, ⟨%f, H⟩, Ht0⟩ Hc
  iapply (wp_sig m K c (opp c) 2 _ (dev3_eq c)) $$ [HO Htb Hpb]
  · isplitr; · iexact Hk
    isplitl [HO]; · iexact HO
    isplitl [Htb]; · iexact Htb
    iexact Hpb
  iintro HO
  iapply (wp_bar m K c (rem c allSends) (above_rem c _ (by decide))) $$ [HO Hcb Hab]
  · isplitr; · iexact Hk
    isplitl [Hcb]; · iexact Hcb
    isplitl [HO]; · iexact HO
    iexact Hab
  iintro ⟨HO, Hz, Hb0, Hb1, HL2⟩
  icases (Entails.of_eq (show (barPay 0 c : sProp 𝕄) = iprop(land 1 (lft c) ∗ land 4 (lft c) ∗ land 6 (lft c) ∗ land 8 (lft c)) from rfl)) $$ Hb0 with ⟨HL1, HL4, HL6, HL8⟩
  icases (Entails.of_eq (show (barPay 1 c : sProp 𝕄) = iprop(land 0 (rgt c) ∗ land 3 (rgt c) ∗ land 5 (rgt c) ∗ land 7 (rgt c)) from rfl)) $$ Hb1 with ⟨HL0, HL3, HL5, HL7⟩
  ihave HL2 := (Entails.of_eq (show (barPay 2 c : sProp 𝕄) = land 2 (tgt 2 c) from rfl)) $$ HL2
  iapply (wp_load 𝒱₀ (c : Thread nD τ) none Set.univ (m := wM cc0_stg1_0) (incl _ _)) $$ Hkk; iintro Hkk
  iapply (wp_load 𝒱₀ (c : Thread nD τ) none Set.univ (m := b0) (incl _ _)) $$ H; iintro H
  iapply (wp_store 𝒱₀ (c : Thread nD τ) none Set.univ (m := b0) (r := slot0) (Mk := Finset.univ) (View.setOn_subset_set _ _ |>.trans (View.set_slice_subset _ _))) $$ H; iintro H
  iapply (wp_load 𝒱₀ (c : Thread nD τ) none Set.univ (m := wM cc0_stg2_0) (incl _ _)) $$ Hv; iintro Hv
  iapply (wp_load 𝒱₀ (c : Thread nD τ) none Set.univ (m := b0) (incl _ _)) $$ H; iintro H
  iapply (wp_store 𝒱₀ (c : Thread nD τ) none Set.univ (m := b0) (r := slot1) (Mk := Finset.univ) (View.setOn_subset_set _ _ |>.trans (View.set_slice_subset _ _))) $$ H; iintro H
  iapply (wp_load 𝒱₀ (c : Thread nD τ) none Set.univ (m := wM cc0_stg0_0) (incl _ _)) $$ Hq; iintro Hq
  rw [show (wM cc0_stg1_0).view.readAt (Elt F) (Rect.unit (s := S2048x256) ![0, 0] S2048x256.size inb_S2048x256_S2048x256_0_0).toLoadRect (kst m c) = kst m c from Memref.readAt_unit_zero (Elt F) cc0_stg1_0 (by decide) _ _]
  rw [show (wM cc0_stg2_0).view.readAt (Elt F) (Rect.unit (s := S2048x256) ![0, 0] S2048x256.size inb_S2048x256_S2048x256_0_0).toLoadRect (vst m c) = vst m c from Memref.readAt_unit_zero (Elt F) cc0_stg2_0 (by decide) _ _]
  rw [show (wM cc0_stg0_0).view.readAt (Elt F) (Rect.unit (s := S2048x256) ![0, 0] S2048x256.size inb_S2048x256_S2048x256_0_0).toLoadRect (qst m c) = qst m c from Memref.readAt_unit_zero (Elt F) cc0_stg0_0 (by decide) _ _]
  ihave H := (Entails.of_eq (congrArg (pt b0 fullShare c) (slots_written m c f))) $$ H
  icases ((pt_share c fullShare b0 (KV m c)).1) $$ H with ⟨Hl, Hr⟩
  icases ((pt_share c fullShare.right b0 (KV m c)).1) $$ Hr with ⟨Ha, Hb⟩
  iapply (wp_xfer m K c 0 [1, 2, 3, 4, 5, 6, 7, 8] (src := b0) (dst := b1) (X := KV m (org 0 c)) (Y := KV m (org 0 c)) (amt_full 0 (by decide)) rfl rfl rfl (fun fd j _ => write_01 fd _ j) (dev4_eq c) rfl rfl) $$ [Ha HL0 HO Ht0]
  · isplitr; · iexact Hk
    isplitl [Ha]; · iexact Ha
    isplitl [HL0]; · iexact HL0
    isplitl [HO]; · iexact HO
    iexact Ht0
  iintro ⟨Hs0, HO⟩
  iapply Hc
  isplitl [HO]; · iexact HO
  isplitl [Hz]; · iexact Hz
  isplitl [HL1]; · iexact HL1
  isplitl [HL2]; · iexact HL2
  isplitl [HL3]; · iexact HL3
  isplitl [HL4]; · iexact HL4
  isplitl [HL5]; · iexact HL5
  isplitl [HL6]; · iexact HL6
  isplitl [HL7]; · iexact HL7
  isplitl [HL8]; · iexact HL8
  isplitl [Hq]; · iexact Hq
  isplitl [Hkk]; · iexact Hkk
  isplitl [Hv]; · iexact Hv
  isplitl [Hl]; · iexact Hl
  isplitl [Hb]; · iexact Hb
  iexact Hs0

end Cert.KernelIdeal.Attn

end
-- ==== Proof.Body.lean ====
/-
The kernel's whole run on one device: from its blocks of the arguments, its buffers and its tokens to its
result, every buffer and counter back.
-/
module

public import proofs.«01_k».proof.Proof.Start

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 9) → ℕ) (c : Dev nD)

/-- One of these per transfer. -/
def each (Φ : Fin 9 → sProp 𝕄) : sProp 𝕄 := iprop(Φ 0 ∗ Φ 1 ∗ Φ 2 ∗ Φ 3 ∗ Φ 4 ∗ Φ 5 ∗ Φ 6 ∗ Φ 7 ∗ Φ 8)

/-- The staged blocks, the result's at contents `g`. -/
def staged (g : (cc0_stg3_0 : Ref sig .tc).ty.Contents (Elt F)) : sProp 𝕄 :=
  iprop(pt (wM cc0_stg0_0) fullShare c (qst m c) ∗ pt (wM cc0_stg1_0) fullShare c (kst m c) ∗ pt (wM cc0_stg2_0) fullShare c (vst m c) ∗ pt (wM cc0_stg3_0) fullShare c g)

/-- The eight buffers. -/
def buffers : sProp 𝕄 :=
  iprop((∃ f : KVt F, pt b0 fullShare c f) ∗ (∃ f : KVt F, pt b1 fullShare c f) ∗ (∃ f : KVt F, pt b2 fullShare c f) ∗ (∃ f : KVt F, pt b3 fullShare c f)
    ∗ (∃ f : KVt F, pt b4 fullShare c f) ∗ (∃ f : KVt F, pt b5 fullShare c f) ∗ (∃ f : KVt F, pt b6 fullShare c f) ∗ (∃ f : KVt F, pt b7 fullShare c f))

/-- What a device starts with. -/
def bodyPre (g : (cc0_stg3_0 : Ref sig .tc).ty.Contents (Elt F)) : sProp 𝕄 :=
  iprop(known m K ∗ ow c (O₀ c)
    ∗ (dutyTok ER (barCell (rgt c)) 0 0 ∗ dutyTok ER (barCell (lft c)) 0 1 ∗ dutyTok ER (barCell (opp c)) 0 2)
    ∗ (cred (tallyAt (barCell c) () 3) ∗ atPos ER (barCell c) 0 ∅ 0)
    ∗ each (fun i => sendToks i c) ∗ each (fun i => recvTok c i) ∗ each (fun i => atPos ER (sendCell i c) 0 ∅ 0)
    ∗ staged m c g ∗ buffers c)

/-- What it ends with. -/
def bodyPost : sProp 𝕄 :=
  iprop(ow c 0 ∗ semVal (barCell c) 0 ∗ each (fun i => semVal (sendCell i c) 0) ∗ each (fun i => semVal (recvCell i c) 0)
    ∗ staged m c (outAt m c) ∗ buffers c)

/-- The seven buffers others write into are handed to them with the three signals. -/
theorem lands : (iprop((∃ f : KVt F, pt b1 fullShare c f) ∗ (∃ f : KVt F, pt b2 fullShare c f) ∗ (∃ f : KVt F, pt b3 fullShare c f)
    ∗ (∃ f : KVt F, pt b4 fullShare c f) ∗ (∃ f : KVt F, pt b5 fullShare c f) ∗ (∃ f : KVt F, pt b6 fullShare c f) ∗ (∃ f : KVt F, pt b7 fullShare c f)) : sProp 𝕄)
    ⊢ iprop(barPay 0 (rgt c) ∗ barPay 1 (lft c) ∗ barPay 2 (opp c)) := by
  rw [show (barPay 0 (rgt c) : sProp 𝕄) = iprop(land 1 (lft (rgt c)) ∗ land 4 (lft (rgt c)) ∗ land 6 (lft (rgt c)) ∗ land 8 (lft (rgt c))) from rfl,
    show (barPay 1 (lft c) : sProp 𝕄) = iprop(land 0 (rgt (lft c)) ∗ land 3 (rgt (lft c)) ∗ land 5 (rgt (lft c)) ∗ land 7 (rgt (lft c))) from rfl,
    show (barPay 2 (opp c) : sProp 𝕄) = land 2 (opp (opp c)) from rfl, lft_rgt, rgt_lft, opp_opp]
  show _ ⊢ iprop(((∃ f, pt b2 fullShare c f) ∗ (∃ f, pt b5 fullShare c f) ∗ (∃ f, pt (hi b6) fullShare c f) ∗ (∃ f, pt (hi b7) fullShare c f)) ∗ ((∃ f, pt b1 fullShare c f) ∗ (∃ f, pt b4 fullShare c f) ∗ (∃ f, pt (lo b6) fullShare c f) ∗ (∃ f, pt (lo b7) fullShare c f)) ∗ (∃ f, pt b3 fullShare c f))
  iintro ⟨H1, H2, H3, H4, H5, ⟨%f6, H6⟩, ⟨%f7, H7⟩⟩
  icases ((pt_halves c fullShare b6 f6).1) $$ H6 with ⟨H6a, H6b⟩
  icases ((pt_halves c fullShare b7 f7).1) $$ H7 with ⟨H7a, H7b⟩
  isplitl [H2 H5 H6b H7b]
  · isplitl [H2]; · iexact H2
    isplitl [H5]; · iexact H5
    isplitl [H6b]; · iexists f6; iexact H6b
    iexists f7; iexact H7b
  isplitl [H1 H4 H6a H7a]
  · isplitl [H1]; · iexact H1
    isplitl [H4]; · iexact H4
    isplitl [H6a]; · iexists f6; iexact H6a
    iexists f7; iexact H7a
  iexact H3

/-- What is left of it beside the first two signals. -/
def bodyMid (g : (cc0_stg3_0 : Ref sig .tc).ty.Contents (Elt F)) : sProp 𝕄 :=
  iprop(known m K ∗ (dutyTok ER (barCell (opp c)) 0 2 ∗ barPay 2 (opp c))
    ∗ (cred (tallyAt (barCell c) () 3) ∗ atPos ER (barCell c) 0 ∅ 0)
    ∗ each (fun i => sendToks i c) ∗ each (fun i => recvTok c i) ∗ each (fun i => atPos ER (sendCell i c) 0 ∅ 0)
    ∗ staged m c g ∗ (∃ f : KVt F, pt b0 fullShare c f))

theorem pre_split (g : (cc0_stg3_0 : Ref sig .tc).ty.Contents (Elt F)) : bodyPre m K c g
    ⊢ iprop((known m K ∗ ow c (O₀ c) ∗ dutyTok ER (barCell (rgt c)) 0 0 ∗ barPay 0 (rgt c) ∗ dutyTok ER (barCell (lft c)) 0 1 ∗ barPay 1 (lft c)) ∗ bodyMid m K c g) := by
  unfold bodyPre bodyMid buffers
  iintro ⟨#Hk, HO, ⟨Ht0, Ht1, Ht2⟩, Hb, Hs, Hr, Ha, Hg, ⟨H0, HB⟩⟩
  icases (lands c) $$ HB with ⟨Hp0, Hp1, Hp2⟩
  isplitl [HO Ht0 Hp0 Ht1 Hp1]
  · isplitr; · iexact Hk
    isplitl [HO]; · iexact HO
    isplitl [Ht0]; · iexact Ht0
    isplitl [Hp0]; · iexact Hp0
    isplitl [Ht1]; · iexact Ht1
    iexact Hp1
  isplitr; · iexact Hk
  isplitl [Ht2 Hp2]
  · isplitl [Ht2]; · iexact Ht2
    iexact Hp2
  isplitl [Hb]; · iexact Hb
  isplitl [Hs]; · iexact Hs
  isplitl [Hr]; · iexact Hr
  isplitl [Ha]; · iexact Ha
  isplitl [Hg]; · iexact Hg
  iexact H0

/-- Shares lent come together again. -/
theorem rejoin {s : Shape} {e : EltTy} (b : Memref sig .tc .vmem s e) (q : PosShare TreeShare) (X : Buf (Elt F) (b.view.loc (c : Thread nD τ))) :
    iprop(pt b q.left c X ∗ pt b q.right c X) ⊢ (pt b q c X : sProp 𝕄) := (pt_share c q b X).2
theorem rejoin_halves (b : Memref sig .tc .vmem S2x2048x256 .bf16) (q : PosShare TreeShare) (X : Buf (Elt F) (b.view.loc (c : Thread nD τ))) :
    iprop(pt b q.left c X ∗ pt (lo b) q.right c X ∗ pt (hi b) q.right c X) ⊢ (pt b q c X : sProp 𝕄) := by
  iintro ⟨Hl, Ha, Hb⟩
  iapply (rejoin c b q X)
  isplitl [Hl]; · iexact Hl
  iapply ((pt_halves c q.right b X).2)
  isplitl [Ha]; · iexact Ha
  iexact Hb

/-- Every buffer is whole again once the nine transfers' sources are back. -/
theorem buffers_back : (iprop((pt b0 fullShare.left c (KV m (src c 0)) ∗ sendPay 0 c (KV m (org 0 c)) ∗ sendPay 1 c (KV m (org 1 c)) ∗ sendPay 2 c (KV m (org 2 c))) ∗ (pt b1 fullShare.left c (KV m (src c 1)) ∗ sendPay 5 c (KV m (org 5 c)) ∗ pt (hi b1) fullShare.right c (KV m (src c 1))) ∗ (pt b2 fullShare.left c (KV m (src c 2)) ∗ pt (lo b2) fullShare.right c (KV m (src c 2)) ∗ sendPay 6 c (KV m (org 6 c))) ∗ (pt b3 fullShare.left c (KV m (src c 3)) ∗ sendPay 3 c (KV m (org 3 c)) ∗ sendPay 4 c (KV m (org 4 c))) ∗ (pt b4 fullShare.left c (KV m (src c 4)) ∗ sendPay 7 c (KV m (org 7 c)) ∗ pt (hi b4) fullShare.right c (KV m (src c 4))) ∗ (pt b5 fullShare.left c (KV m (src c 5)) ∗ pt (lo b5) fullShare.right c (KV m (src c 5)) ∗ sendPay 8 c (KV m (org 8 c))) ∗ pt b6 fullShare c (KV m (src c 6)) ∗ pt b7 fullShare c (KV m (src c 7))) : sProp 𝕄) ⊢ buffers c := by
  show iprop((pt b0 fullShare.left c (KV m (src c 0)) ∗ pt b0 fullShare.right.left c (KV m (src c 0)) ∗ pt b0 fullShare.right.right.left c (KV m (src c 0)) ∗ pt b0 fullShare.right.right.right c (KV m (src c 0))) ∗ (pt b1 fullShare.left c (KV m (src c 1)) ∗ pt (lo b1) fullShare.right c (KV m (src c 1)) ∗ pt (hi b1) fullShare.right c (KV m (src c 1))) ∗ (pt b2 fullShare.left c (KV m (src c 2)) ∗ pt (lo b2) fullShare.right c (KV m (src c 2)) ∗ pt (hi b2) fullShare.right c (KV m (src c 2))) ∗ (pt b3 fullShare.left c (KV m (src c 3)) ∗ pt b3 fullShare.right.left c (KV m (src c 3)) ∗ pt b3 fullShare.right.right c (KV m (src c 3))) ∗ (pt b4 fullShare.left c (KV m (src c 4)) ∗ pt (lo b4) fullShare.right c (KV m (src c 4)) ∗ pt (hi b4) fullShare.right c (KV m (src c 4))) ∗ (pt b5 fullShare.left c (KV m (src c 5)) ∗ pt (lo b5) fullShare.right c (KV m (src c 5)) ∗ pt (hi b5) fullShare.right c (KV m (src c 5))) ∗ pt b6 fullShare c (KV m (src c 6)) ∗ pt b7 fullShare c (KV m (src c 7))) ⊢ _
  unfold buffers
  iintro ⟨⟨H0l, H0a, H0b, H0c⟩, H1, H2, ⟨H3l, H3a, H3b⟩, H4, H5, H6, H7⟩
  isplitl [H0l H0a H0b H0c]
  · iexists (KV m (src c 0))
    iapply (rejoin c b0 fullShare)
    isplitl [H0l]; · iexact H0l
    iapply (rejoin c b0 fullShare.right)
    isplitl [H0a]; · iexact H0a
    iapply (rejoin c b0 fullShare.right.right)
    isplitl [H0b]; · iexact H0b
    iexact H0c
  isplitl [H1]; · (iexists (KV m (src c 1))); iapply (rejoin_halves c b1 fullShare) $$ H1
  isplitl [H2]; · (iexists (KV m (src c 2))); iapply (rejoin_halves c b2 fullShare) $$ H2
  isplitl [H3l H3a H3b]
  · iexists (KV m (src c 3))
    iapply (rejoin c b3 fullShare)
    isplitl [H3l]; · iexact H3l
    iapply (rejoin c b3 fullShare.right)
    isplitl [H3a]; · iexact H3a
    iexact H3b
  isplitl [H4]; · (iexists (KV m (src c 4))); iapply (rejoin_halves c b4 fullShare) $$ H4
  isplitl [H5]; · (iexists (KV m (src c 5))); iapply (rejoin_halves c b5 fullShare) $$ H5
  isplitl [H6]; · (iexists (KV m (src c 6))); iexact H6
  iexists (KV m (src c 7)); iexact H7

/-- The kernel's run. -/
theorem run_body (g : (cc0_stg3_0 : Ref sig .tc).ty.Contents (Elt F)) :
    bodyPre m K c g ⊢ wp frame (wpE (defs₀ (F := F)) 𝒱₀ (c : Thread nD τ) none) Set.univ (cc0_body (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9) (fun _ => bodyPost m c) := by
  refine (pre_split m K c g).trans ?_
  simp only [cc0_body_eq_skeleton]; unfold cc0_body_skel
  rw [wp_bind]
  simp only [k0_part24_eq_skeleton]; unfold k0_part24_skel
  refine run_part1 m K c fun w₁ w₂ w₃ => ?_
  unfold bodyMid staged each
  iintro ⟨HO, #Hk, ⟨Htb2, Hp2⟩, ⟨Hcb, Hab⟩, ⟨HT0, HT1, HT2, HT3, HT4, HT5, HT6, HT7, HT8⟩, ⟨Hr0, Hr1, Hr2, Hr3, Hr4, Hr5, Hr6, Hr7, Hr8⟩, ⟨Ha0, Ha1, Ha2, Ha3, Ha4, Ha5, Ha6, Ha7, Ha8⟩, ⟨Hq, Hkk, Hv, Hout⟩, Hb0⟩
  iapply (run_part2 m K c _ _ _ _ _) $$ [HO Htb2 Hp2 Hcb Hab Hq Hkk Hv Hb0 HT0]
  · isplitr; · iexact Hk
    isplitl [HO]; · iexact HO
    isplitl [Htb2]; · iexact Htb2
    isplitl [Hp2]; · iexact Hp2
    isplitl [Hcb]; · iexact Hcb
    isplitl [Hab]; · iexact Hab
    isplitl [Hq]; · iexact Hq
    isplitl [Hkk]; · iexact Hkk
    isplitl [Hv]; · iexact Hv
    isplitl [Hb0]; · iexact Hb0
    iexact HT0
  iintro ⟨HO, Hzb, HL1, HL2, HL3, HL4, HL5, HL6, HL7, HL8, Hq, Hkk, Hv, H0l, H0r, Hs0⟩
  iapply (run_part3 m K c _ _ _ _ _) $$ [HO HL1 HL2 HT1 HT2 H0l H0r]
  · isplitr; · iexact Hk
    isplitl [HO]; · iexact HO
    isplitl [HL1]; · iexact HL1
    isplitl [HL2]; · iexact HL2
    isplitl [HT1]; · iexact HT1
    isplitl [HT2]; · iexact HT2
    isplitl [H0l]; · iexact H0l
    iexact H0r
  iintro ⟨HO, Hs1, Hs2, H0l⟩
  iapply (run_part4 m c _ _ _) $$ [H0l]
  · iexact H0l
  iintro H0l
  iapply (run_part5 m K c _ _ _ _ _) $$ [HO Hr0 Hr1 Hr2 HL3 HT3]
  · isplitr; · iexact Hk
    isplitl [HO]; · iexact HO
    isplitl [Hr0]; · iexact Hr0
    isplitl [Hr1]; · iexact Hr1
    isplitl [Hr2]; · iexact Hr2
    isplitl [HL3]; · iexact HL3
    iexact HT3
  iintro ⟨HO, Hz0, Hz1, Hz2, H1, H2, H3l, H3b, Hs3⟩
  iapply (run_part6 m K c _ _ _ _) $$ [HO HL4 HL5 HL6 HT4 HT5 HT6 H3b H1 H2]
  · isplitr; · iexact Hk
    isplitl [HO]; · iexact HO
    isplitl [HL4]; · iexact HL4
    isplitl [HL5]; · iexact HL5
    isplitl [HL6]; · iexact HL6
    isplitl [HT4]; · iexact HT4
    isplitl [HT5]; · iexact HT5
    isplitl [HT6]; · iexact HT6
    isplitl [H3b]; · iexact H3b
    isplitl [H1]; · iexact H1
    iexact H2
  iintro ⟨HO, Hs4, Hs5, Hs6, H1l, H1b, H2l, H2a⟩
  iapply (run_part7 m c _ _ _) $$ [H1l]
  · iexact H1l
  iintro H1l
  iapply (run_part8 m c _ _ _) $$ [H1l H2l]
  · isplitl [H1l]; · iexact H1l
    iexact H2l
  iintro ⟨H1l, H2l⟩
  iapply (run_part9 m c _ _ _) $$ [H2l]
  · iexact H2l
  iintro H2l
  iapply (run_part10 m c _ _ _) $$ [H2l H3l]
  · isplitl [H2l]; · iexact H2l
    iexact H3l
  iintro ⟨H2l, H3l⟩
  iapply (run_part11 m c _ _ _) $$ [H3l]
  · iexact H3l
  iintro H3l
  iapply (run_part12 m c _ _ _) $$ [H3l]
  · iexact H3l
  iintro H3l
  iapply (run_part13 m K c _ _ _ _) $$ [HO Hr3 Hr4 Hr5 Hr6]
  · isplitr; · iexact Hk
    isplitl [HO]; · iexact HO
    isplitl [Hr3]; · iexact Hr3
    isplitl [Hr4]; · iexact Hr4
    isplitl [Hr5]; · iexact Hr5
    iexact Hr6
  iintro ⟨HO, Hz3, Hz4, Hz5, Hz6, H4, H5, H6⟩
  iapply (run_part14 m K c _ _ _) $$ [HO HL7 HL8 HT7 HT8 H4 H5]
  · isplitr; · iexact Hk
    isplitl [HO]; · iexact HO
    isplitl [HL7]; · iexact HL7
    isplitl [HL8]; · iexact HL8
    isplitl [HT7]; · iexact HT7
    isplitl [HT8]; · iexact HT8
    isplitl [H4]; · iexact H4
    iexact H5
  iintro ⟨HO, Hs7, Hs8, H4l, H4b, H5l, H5a⟩
  iapply (run_part15 m c _ _ _) $$ [H4l]
  · iexact H4l
  iintro H4l
  iapply (run_part16 m c _ _ _) $$ [H4l H5l]
  · isplitl [H4l]; · iexact H4l
    iexact H5l
  iintro ⟨H4l, H5l⟩
  iapply (run_part17 m c _ _ _) $$ [H5l]
  · iexact H5l
  iintro H5l
  icases ((pt_share c fullShare b6 (KV m (src c 6))).1) $$ H6 with ⟨H6l, H6r⟩
  iapply (run_part18 m c _ _ _) $$ [H5l H6l]
  · isplitl [H5l]; · iexact H5l
    iexact H6l
  iintro ⟨H5l, H6l⟩
  iapply (run_part19 m c _ _ _) $$ [H6l]
  · iexact H6l
  iintro H6l
  ihave H6 := (rejoin c b6 fullShare (KV m (src c 6))) $$ [H6l H6r]
  · isplitl [H6l]; · iexact H6l
    iexact H6r
  iapply (run_part20 m K c _ _ _) $$ [HO Hr7 H6]
  · isplitr; · iexact Hk
    isplitl [HO]; · iexact HO
    isplitl [Hr7]; · iexact Hr7
    iexact H6
  iintro ⟨HO, Hz7, H6, H7a⟩
  iapply (run_part21 m K c _ _ _) $$ [HO Hr8 H7a]
  · isplitr; · iexact Hk
    isplitl [HO]; · iexact HO
    isplitl [Hr8]; · iexact Hr8
    iexact H7a
  iintro ⟨HO, Hz8, H7⟩
  iapply (run_part22 m c _ _ _) $$ [H7]
  · iexact H7
  iintro H7
  iapply (run_part23 m K c _ _) $$ [HO Hs0 Hs1 Hs2 Hs3 Hs4 Ha0 Ha1 Ha2 Ha3 Ha4]
  · isplitr; · iexact Hk
    isplitl [HO]; · iexact HO
    isplitl [Hs0 Ha0]; · (isplitl [Hs0]; · iexact Hs0); iexact Ha0
    isplitl [Hs1 Ha1]; · (isplitl [Hs1]; · iexact Hs1); iexact Ha1
    isplitl [Hs2 Ha2]; · (isplitl [Hs2]; · iexact Hs2); iexact Ha2
    isplitl [Hs3 Ha3]; · (isplitl [Hs3]; · iexact Hs3); iexact Ha3
    isplitl [Hs4]; · iexact Hs4
    iexact Ha4
  iintro ⟨HO, Hy0, Hy1, Hy2, Hy3, Hy4, Hd0, Hd1, Hd2, Hd3, Hd4⟩
  dsimp only
  simp only [Prog.lift, Prog.bind_op, Prog.bind_ret, Prog.pure_eq_ret]
  iapply (wp_sent m K c 5 (dst := (lo b1)) (amt_half 5 (by decide)) rfl) $$ [Hs5 Ha5 HO]
  · isplitr; · iexact Hk
    isplitl [Hs5]; · iexact Hs5
    isplitl [HO]; · iexact HO
    iexact Ha5
  iintro ⟨HO, Hy5, Hd5⟩
  iapply (wp_sent m K c 6 (dst := (hi b2)) (amt_half 6 (by decide)) rfl) $$ [Hs6 Ha6 HO]
  · isplitr; · iexact Hk
    isplitl [Hs6]; · iexact Hs6
    isplitl [HO]; · iexact HO
    iexact Ha6
  iintro ⟨HO, Hy6, Hd6⟩
  iapply (wp_sent m K c 7 (dst := (lo b4)) (amt_half 7 (by decide)) rfl) $$ [Hs7 Ha7 HO]
  · isplitr; · iexact Hk
    isplitl [Hs7]; · iexact Hs7
    isplitl [HO]; · iexact HO
    iexact Ha7
  iintro ⟨HO, Hy7, Hd7⟩
  rw [wp_ret]; imodintro
  simp only [Prog.lift, Prog.bind_op, Prog.bind_ret, Prog.pure_eq_ret]
  iapply (wp_sent m K c 8 (dst := (hi b5)) (amt_half 8 (by decide)) rfl) $$ [Hs8 Ha8 HO]
  · isplitr; · iexact Hk
    isplitl [Hs8]; · iexact Hs8
    isplitl [HO]; · iexact HO
    iexact Ha8
  iintro ⟨HO, Hy8, Hd8⟩
  iapply (wp_load 𝒱₀ (c : Thread nD τ) none Set.univ (m := wM cc0_stg3_0) (incl _ _)) $$ Hout; iintro Hout
  iapply (wp_store 𝒱₀ (c : Thread nD τ) none Set.univ (m := wM cc0_stg3_0) (r := Rect.unit (s := S2048x256) ![0, 0] S2048x256.size inb_S2048x256_S2048x256_0_0) (Mk := Finset.univ) (View.setOn_subset_set _ _ |>.trans (View.set_slice_subset _ _))) $$ Hout; iintro Hout
  rw [wp_ret]; imodintro
  ihave Hout := (Entails.of_eq (show (pt (wM cc0_stg3_0) fullShare c (((wM cc0_stg3_0).access (Rect.unit (s := S2048x256) ![0, 0] S2048x256.size inb_S2048x256_S2048x256_0_0)).write (Elt F) g (k0_pay1 (st m c 32).l (st m c 32).a) Finset.univ) : sProp 𝕄) = pt (wM cc0_stg3_0) fullShare c (outAt m c)
    from congrArg (pt (wM cc0_stg3_0) fullShare c) (Memref.write_access_unit_zero_univ (Elt F) cc0_stg3_0 (by decide) inb_S2048x256_S2048x256_0_0 g (outAt m c)))) $$ Hout
  unfold bodyPost staged each
  isplitl [HO]; · iexact HO
  isplitl [Hzb]; · iexact Hzb
  isplitl [Hy0 Hy1 Hy2 Hy3 Hy4 Hy5 Hy6 Hy7 Hy8]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    iexact Hy8
  isplitl [Hz0 Hz1 Hz2 Hz3 Hz4 Hz5 Hz6 Hz7 Hz8]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hz8
  isplitl [Hq Hkk Hv Hout]
  · isplitl [Hq]; · iexact Hq
    isplitl [Hkk]; · iexact Hkk
    isplitl [Hv]; · iexact Hv
    iexact Hout
  iapply (buffers_back m c)
  isplitl [H0l Hd0 Hd1 Hd2]
  · isplitl [H0l]; · iexact H0l
    isplitl [Hd0]; · iexact Hd0
    isplitl [Hd1]; · iexact Hd1
    iexact Hd2
  isplitl [H1l Hd5 H1b]
  · isplitl [H1l]; · iexact H1l
    isplitl [Hd5]; · iexact Hd5
    iexact H1b
  isplitl [H2l H2a Hd6]
  · isplitl [H2l]; · iexact H2l
    isplitl [H2a]; · iexact H2a
    iexact Hd6
  isplitl [H3l Hd3 Hd4]
  · isplitl [H3l]; · iexact H3l
    isplitl [Hd3]; · iexact Hd3
    iexact Hd4
  isplitl [H4l Hd7 H4b]
  · isplitl [H4l]; · iexact H4l
    isplitl [Hd7]; · iexact Hd7
    iexact H4b
  isplitl [H5l H5a Hd8]
  · isplitl [H5l]; · iexact H5l
    isplitl [H5a]; · iexact H5a
    iexact Hd8
  isplitl [H6]; · iexact H6
  iexact H7

end Cert.KernelIdeal.Attn

end
-- ==== Proof.Alloc.lean ====
/-
What the launch deals out. The semaphores' invariants and tokens are minted together, each device's own
cells first; the tokens then go to the devices that pay the duties, and each device's credit for what the
others owe it is counted.
-/
module

public import proofs.«01_k».proof.Proof.Body

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Conjunctions over the transfers -/

theorem each_eq (Φ : Fin 9 → sProp 𝕄) : each Φ = bigSep Finset.univ Φ :=
  (bigSep_univ_eq_bigSepL [0, 1, 2, 3, 4, 5, 6, 7, 8] (by decide) (by decide) Φ).symm
theorem each_sep (Φ Ψ : Fin 9 → sProp 𝕄) : each (fun i => iprop(Φ i ∗ Ψ i)) = iprop(each Φ ∗ each Ψ) := by
  rw [each_eq, each_eq, each_eq]; exact bigSep_sep' _ _ _
theorem three_eq (Φ : Fin 3 → sProp 𝕄) : bigSep Finset.univ Φ = iprop(Φ 0 ∗ Φ 1 ∗ Φ 2) :=
  bigSep_univ_eq_bigSepL [0, 1, 2] (by decide) (by decide) Φ
/-- Over the send and the receive semaphores: first the former, then the latter. -/
theorem both_eq (Φ : Bool × Fin 9 → sProp 𝕄) : bigSep Finset.univ Φ = iprop(each (fun i => Φ (false, i)) ∗ each (fun i => Φ (true, i))) := by
  rw [bigSep_univ_prod, each_eq, each_eq]
  exact bigSep_univ_eq_bigSepL [false, true] (by decide) (by decide) _
/-- Over all of a device's semaphores: the barrier first. -/
theorem all_eq (Φ : Option (Bool × Fin 9) → sProp 𝕄) : bigSep Finset.univ Φ
    = iprop(Φ none ∗ each (fun i => Φ (some (false, i))) ∗ each (fun i => Φ (some (true, i)))) := by
  have h : (Finset.univ : Finset (Option (Bool × Fin 9))) = insert none (Finset.univ.map ⟨some, Option.some_injective _⟩) := by
    ext x; cases x <;> simp
  rw [h, bigSep_insert (by simp), bigSep_map, ← both_eq (fun k => Φ (some k))]
  rfl

/-! ## Minting -/

theorem csem_injective : Function.Injective csem := by decide +kernel
theorem kcell_injective : Function.Injective (kcell : Dev nD × Option (Bool × Fin 9) → GSem nD τ sig) := by
  rintro ⟨c, k⟩ ⟨c', k'⟩ h
  exact Prod.ext (congrArg (fun g : GSem nD τ sig => g.1.1) h) (csem_injective (congrArg Prod.snd h))
/-- Every semaphore of the protocol. -/
def allCells : Finset (GSem nD τ sig) := Finset.univ.map ⟨kcell, kcell_injective⟩

/-- The duties of a device's own semaphores: three at its barrier, one at each transfer semaphore. -/
abbrev dutyOf (x : Dev nD × (Fin 3 ⊕ Bool × Fin 9)) : GSem nD τ sig × ℕ × Fin 3 := match x.2 with
  | .inl d => (barCell x.1, 0, d)
  | .inr k => (kcell (x.1, some k), 0, 0)
theorem dutyOf_injective : Function.Injective dutyOf := by
  rintro ⟨c, j⟩ ⟨c', j'⟩ h
  have hk : ∀ (k : Option (Bool × Fin 9)) (k' : Option (Bool × Fin 9)) {d d' : Fin 3},
      ((kcell (c, k), 0, d) : GSem nD τ sig × ℕ × Fin 3) = (kcell (c', k'), 0, d') → (c, k) = (c', k') ∧ d = d' :=
    fun k k' d d' e => ⟨kcell_injective (congrArg Prod.fst e), congrArg (fun y : GSem nD τ sig × ℕ × Fin 3 => y.2.2) e⟩
  rcases j with d | k <;> rcases j' with d' | k'
  · obtain ⟨h1, h2⟩ := hk none none h
    rw [h2, show c = c' from (Prod.ext_iff.mp h1).1]
  · exact absurd (Prod.ext_iff.mp (hk none (some k') h).1).2 (fun e => by cases e)
  · exact absurd (Prod.ext_iff.mp (hk (some k) none h).1).2 (fun e => by cases e)
  · obtain ⟨h1, -⟩ := hk (some k) (some k') h
    rw [show c = c' from (Prod.ext_iff.mp h1).1, show k = k' from Option.some_injective _ (Prod.ext_iff.mp h1).2]
def allDuties : Finset (GSem nD τ sig × ℕ × Fin 3) := Finset.univ.map ⟨dutyOf, dutyOf_injective⟩

/-- The launch's ghost element: the staging's and the protocol's. -/
def u₀ : UU := (initOf (Pipeline.cells cfgs cellOf_inj) (Pipeline.launchToks cfgs cellOf_inj), initOf allCells allDuties)

/-- The duty tokens of device `c`'s own semaphores. -/
def ownDuties (c : Dev nD) : sProp 𝕄 :=
  iprop((dutyTok ER (barCell c) 0 0 ∗ dutyTok ER (barCell c) 0 1 ∗ dutyTok ER (barCell c) 0 2)
    ∗ each (fun i => dutyTok ER (sendCell i c) 0 0) ∗ each (fun i => dutyTok ER (recvCell i c) 0 0))

/-- What is minted for device `c`. -/
def minted (c : Dev nD) : sProp 𝕄 :=
  iprop((bigSep Finset.univ fun k : Option (Bool × Fin 9) => roundState ER (rd m) (kcell (c, k)) 0)
    ∗ (bigSep Finset.univ fun k : Option (Bool × Fin 9) => iprop(atPos ER (kcell (c, k)) 0 ∅ 0 ∗ reached ER (kcell (c, k)) 0)) ∗ ownDuties c)

theorem mint : BI.own (ER (initOf allCells allDuties)) ⊢ (|==> bigSep Finset.univ (minted m) : sProp 𝕄) := by
  have hc (Φ : GSem nD τ sig → sProp 𝕄) : bigSep allCells Φ = bigSep Finset.univ fun c : Dev nD => bigSep Finset.univ fun k : Option (Bool × Fin 9) => Φ (kcell (c, k)) := by
    unfold allCells; rw [bigSep_map, bigSep_univ_prod]; rfl
  have hd : bigSep allDuties (fun x => (dutyTok ER x.1 x.2.1 x.2.2 : sProp 𝕄)) = bigSep Finset.univ fun c : Dev nD => ownDuties c := by
    unfold allDuties; rw [bigSep_map, bigSep_univ_prod]
    refine bigSep_congr fun c _ => ?_
    rw [bigSep_univ_sum]
    unfold ownDuties
    exact congrArg₂ BIBase.sep (three_eq (fun d => dutyTok ER (barCell c) 0 d)) (both_eq (fun k => dutyTok ER (kcell (c, some k)) 0 0))
  iintro HX
  imod (Rounds.fund ER (rd m) allCells allDuties) $$ HX with ⟨Hst, Hr, Hat, Htok⟩
  imodintro
  ihave Hst' := (Entails.of_eq (hc fun g => roundState ER (rd m) g 0)) $$ Hst
  ihave Hat' := (Entails.of_eq (hc fun g => atPos ER g 0 ∅ 0)) $$ Hat
  ihave Hr' := (Entails.of_eq (hc fun g => reached ER g 0)) $$ Hr
  ihave Htok' := (Entails.of_eq hd) $$ Htok
  unfold minted; simp only [bigSep_sep']
  isplitl [Hst']; · iexact Hst'
  isplitl [Hat' Hr']
  · isplitl [Hat'] <;> iassumption
  iexact Htok'

/-! ## The counters become the protocol's -/

theorem ownSems_eq (c : Dev nD) : (Pipeline.ownSems0 (Ix := Unit) (Name := ℕ) (U := UU) (Lvl := ℕ) (Val := Elt F) (τ := τ) osem c : sProp 𝕄)
    = iprop(each (fun i => semVal (sendCell i c) 0) ∗ each (fun i => semVal (recvCell i c) 0)) := by
  unfold Pipeline.ownSems0; exact both_eq _
theorem unscopedSems_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Bool × Fin 9) => semVal (kcell (c, k)) 0 : sProp 𝕄) := by
  rw [ownSems_eq, unscopedSems_eq, all_eq]
  iintro ⟨⟨HS, HV⟩, HB⟩
  isplitl [HB]; · iexact HB
  isplitl [HS]; · iexact HS
  iexact HV

/-- Each of a device's counters, with its round state, becomes an invariant under some name. -/
theorem share_cells (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ ownDuties c) := by
  unfold minted
  iintro ⟨Hos, Hus, Hst, Hat, Htok⟩
  ihave Hv := (sems_eq (F := F) c) $$ [Hos Hus]
  · isplitl [Hos] <;> iassumption
  imod (show iprop((bigSep Finset.univ fun k : Option (Bool × Fin 9) => semVal (kcell (c, k)) 0) ∗ bigSep Finset.univ fun k : Option (Bool × Fin 9) => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the payers -/

/-- The tokens of the duties device `c` pays. -/
def payDuties (c : Dev nD) : sProp 𝕄 :=
  iprop((dutyTok ER (barCell (rgt c)) 0 0 ∗ dutyTok ER (barCell (lft c)) 0 1 ∗ dutyTok ER (barCell (opp c)) 0 2) ∗ each (fun i => sendToks i c))

/-- The receive cells' tokens, transfer by transfer, to the senders. -/
theorem to_senders : (bigSep Finset.univ fun c : Dev nD => (each (fun i => dutyTok ER (recvCell i c) 0 0) : sProp 𝕄))
    = bigSep Finset.univ fun c : Dev nD => each (fun i => dutyTok ER (recvCell i (tgt i c)) 0 0) := by
  simp only [each_eq]
  rw [bigSep_univ_comm, bigSep_univ_comm (fun (c : Dev nD) (i : Fin 9) => (dutyTok ER (recvCell i (tgt i c)) 0 0 : sProp 𝕄))]
  exact bigSep_congr fun i _ => bigSep_univ_equiv (tgtE i) (fun c : Dev nD => (dutyTok ER (recvCell i c) 0 0 : sProp 𝕄))

theorem to_payers : (bigSep Finset.univ fun c : Dev nD => (ownDuties c : sProp 𝕄)) ⊢ bigSep Finset.univ fun c : Dev nD => payDuties c := by
  unfold ownDuties payDuties sendToks
  simp only [each_sep]
  rw [bigSep_sep', bigSep_sep', bigSep_sep', bigSep_sep', to_senders, bigSep_sep', bigSep_sep', bigSep_sep', bigSep_sep',
    bigSep_univ_equiv rgtE (fun c : Dev nD => (dutyTok ER (barCell c) 0 0 : sProp 𝕄)),
    bigSep_univ_equiv rgtE.symm (fun c : Dev nD => (dutyTok ER (barCell c) 0 1 : sProp 𝕄)),
    bigSep_univ_equiv oppE (fun c : Dev nD => (dutyTok ER (barCell c) 0 2 : sProp 𝕄))]
  iintro ⟨⟨H0, H1, H2⟩, HS, HR⟩
  isplitl [H0 H1 H2]
  · isplitl [H0]; · iexact H0
    isplitl [H1]; · iexact H1
    iexact H2
  isplitl [HS]; · iexact HS
  iexact HR

/-- A device's positions at its own semaphores and the tokens it pays with. -/
def linear (c : Dev nD) : sProp 𝕄 :=
  iprop((atPos ER (barCell c) 0 ∅ 0 ∗ each (fun i => atPos ER (sendCell i c) 0 ∅ 0) ∗ each (fun i => atPos ER (recvCell i c) 0 ∅ 0)) ∗ payDuties c)

/-- What the launch leaves each device: the records, at some names, and that. -/
def dealt (c : Dev nD) : sProp 𝕄 := iprop(∃ K, records m K ∗ linear c)

/-- A persistent fact is available at every summand. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ ownDuties c) : sProp 𝕄)
      ⊢ bigSep Finset.univ (dealt m) := by
  rw [bigSep_sep', bigSep_sep', ← bigSep_univ_prod (fun ck : Dev nD × Option (Bool × Fin 9) => iprop(∃ κ : ℕ, cellInv ER (rd m) κ (kcell ck))),
    bigSep_congr (s := Finset.univ) (fun (c : Dev nD) _ => bigSep_sep' Finset.univ (fun k : Option (Bool × Fin 9) => (atPos ER (kcell (c, k)) 0 ∅ 0 : sProp 𝕄)) (fun k => reached ER (kcell (c, k)) 0)),
    bigSep_sep', ← bigSep_univ_prod (fun ck : Dev nD × Option (Bool × Fin 9) => (reached ER (kcell ck) 0 : sProp 𝕄))]
  iintro ⟨HI, ⟨Hat, #HR⟩, Htok⟩
  ihave HK := (BI.bigSep_exists_pi Finset.univ (fun (ck : Dev nD × Option (Bool × Fin 9)) (κ : ℕ) => (cellInv ER (rd m) κ (kcell ck) : sProp 𝕄))) $$ HI
  icases HK with ⟨%K, #HI⟩
  ihave Htk := (to_payers (F := F)) $$ Htok
  iapply (bigSep_with (R := records m K) (Φ := linear) fun c _ => by
    unfold dealt
    iintro H
    iexists K
    iexact H)
  isplitr
  · unfold records; isplitl; · iexact HI
    iexact HR
  · unfold linear
    rw [bigSep_sep']
    isplitl [Hat]
    · iapply (Entails.of_eq (bigSep_congr (s := Finset.univ) fun (c : Dev nD) _ => all_eq (fun k => (atPos ER (kcell (c, k)) 0 ∅ 0 : sProp 𝕄)))) $$ Hat
    iexact Htk

/-- All devices' counters and minted elements become what each device starts from. -/
theorem deal : (bigSep Finset.univ fun c => iprop(Pipeline.ownSems0 (Ix := Unit) (Name := ℕ) (U := UU) (Lvl := ℕ) (Val := Elt F) (τ := τ) osem c ∗ unscopedSems0 c ∗ minted m c) : sProp 𝕄)
    ⊢ |={Set.univ}=> bigSep Finset.univ (dealt m) :=
  ((bigSep_mono fun c _ => share_cells m c).trans (bigSep_fupd _ _)).trans (BI.fupd_mono (regroup m))

/-! ## The credit -/

theorem bar_iff (a b : Dev nD) : barCell a = barCell b ↔ a = b :=
  ⟨fun h => congrArg (fun g : GSem nD τ sig => g.1.1) h, fun h => h ▸ rfl⟩
theorem recv_iff (i j : Fin 9) (a b : Dev nD) : recvCell i a = recvCell j b ↔ i = j ∧ a = b := by
  refine ⟨fun h => ?_, fun h => by rw [h.1, h.2]⟩
  have h' := kcell_injective (a₁ := (a, some (true, i))) (a₂ := (b, some (true, j))) h
  exact ⟨congrArg (fun x : Dev nD × Option (Bool × Fin 9) => (x.2.getD (true, 0)).2) h', congrArg Prod.fst h'⟩
theorem bar_ne_recv (i : Fin 9) (a b : Dev nD) : barCell a ≠ recvCell i b := fun h => by cases congrArg Prod.snd h

theorem rem_bar (d c : Dev nD) (l : List (Fin 9)) : rem d l (barCell c) () = 0 := by
  induction l with
  | nil => rfl
  | cons j l ih =>
    show (rem d l + _) (barCell c) () = 0
    rw [Pi.add_apply, Finsupp.add_apply, ih, tallyAt_apply, if_neg fun h => bar_ne_recv _ _ _ h.1]
theorem rem_recv (d c : Dev nD) (i : Fin 9) (l : List (Fin 9)) (hl : l.Nodup) :
    rem d l (recvCell i c) () = if i ∈ l ∧ d = frm i c then amt i else 0 := by
  induction l with
  | nil => exact (if_neg fun h => by simp at h).symm
  | cons j l ih =>
    show (rem d l + _) (recvCell i c) () = _
    rw [Pi.add_apply, Finsupp.add_apply, ih (List.nodup_cons.mp hl).2, tallyAt_apply]
    by_cases hij : i = j
    · subst hij
      rw [if_neg fun h => (List.nodup_cons.mp hl).1 h.1, Nat.zero_add]
      by_cases hd : d = frm i c
      · rw [if_pos ⟨by rw [hd, tgt_frm], rfl⟩, if_pos ⟨List.mem_cons_self, hd⟩]
      · rw [if_neg fun h => hd (by rw [((recv_iff _ _ _ _).mp h.1).2, frm_tgt]), if_neg fun h => hd h.2]
    · rw [if_neg (c := _ ∧ _) (fun h : recvCell i c = recvCell j (tgt j d) ∧ () = () => hij ((recv_iff _ _ _ _).mp h.1).1), Nat.add_zero]
      by_cases hd : i ∈ l ∧ d = frm i c
      · rw [if_pos hd, if_pos ⟨List.mem_cons_of_mem _ hd.1, hd.2⟩]
      · rw [if_neg hd, if_neg fun h => hd ⟨(List.mem_cons.mp h.1).resolve_left hij, h.2⟩]

/-- What device `d` owes device `c`'s barrier: one unit for each neighbour of `c` it is. -/
theorem owed_bar (d c : Dev nD) : O₀ d (barCell c) () = (if d = opp c then 1 else 0) + (if d = rgt c then 1 else 0) + (if d = lft c then 1 else 0) := by
  have h (e : Dev nD ≃ Dev nD) : (tallyAt (barCell (e d)) () 1 : CellTallies nD τ sig Unit) (barCell c) () = if d = e.symm c then 1 else 0 := by
    rw [tallyAt_apply]
    by_cases hd : d = e.symm c
    · rw [if_pos hd, if_pos ⟨by rw [hd, Equiv.apply_symm_apply], rfl⟩]
    · rw [if_neg hd, if_neg fun h => hd (by rw [(bar_iff _ _).mp h.1, Equiv.symm_apply_apply])]
  unfold O₀
  rw [Pi.add_apply, Finsupp.add_apply, Pi.add_apply, Finsupp.add_apply, Pi.add_apply, Finsupp.add_apply, rem_bar, Nat.zero_add]
  exact congrArg₂ (· + ·) (congrArg₂ (· + ·) (h oppE) (h rgtE.symm)) (h rgtE)

/-- What device `d` owes device `c`'s receive semaphore `i`: the credit of transfer `i`, if it is `c`'s sender. -/
theorem owed_recv (d c : Dev nD) (i : Fin 9) : O₀ d (recvCell i c) () = if d = frm i c then amt i else 0 := by
  have h (a : Dev nD) : (tallyAt (barCell a) () 1 : CellTallies nD τ sig Unit) (recvCell i c) () = 0 := by
    rw [tallyAt_apply, if_neg fun h => bar_ne_recv i a c h.1.symm]
  unfold O₀
  rw [Pi.add_apply, Finsupp.add_apply, Pi.add_apply, Finsupp.add_apply, Pi.add_apply, Finsupp.add_apply, h, h, h, rem_recv d c i _ (by decide)]
  have hi : i ∈ allSends := by clear h; revert i; decide
  simp only [hi, _root_.true_and, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (opp c) fun _ => 1, Finset.sum_ite_eq' Finset.univ (rgt c) fun _ => 1, Finset.sum_ite_eq' Finset.univ (lft c) fun _ => 1,
    if_pos (Finset.mem_univ _), if_pos (Finset.mem_univ _), if_pos (Finset.mem_univ _)]
theorem launch_recv (c : Dev nD) (i : Fin 9) :
    tallyOn (recvCell i c) (launchCredit (Pipeline.owing O₀) 0 (recvCell i c)) = (tallyAt (recvCell i c) () (amt i) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (frm i c) fun _ => amt i,
    if_pos (Finset.mem_univ _)]

/-- A device's launch credit: three units at its barrier, each transfer's at its receive semaphores. -/
theorem credits (c : Dev nD) :
    (Pipeline.launchCred O₀ c : sProp 𝕄) ⊢ iprop(cred (tallyAt (barCell c) () 3) ∗ each (fun i => cred (tallyAt (recvCell i c) () (amt i)))) := by
  unfold Pipeline.launchCred
  rw [bigSep_univ_at _ (SemLoc.reg barS), launch_bar]
  refine sep_mono_right ?_
  rw [each_eq]
  have hinj : Function.Injective (fun i : Fin 9 => (SemLoc.dma (rS i) : SemLoc sig)) := by decide
  refine (bigSep_subset (t := Finset.univ.map ⟨fun i : Fin 9 => (SemLoc.dma (rS i) : SemLoc sig), hinj⟩) ?_).trans ?_
  · intro x hx
    obtain ⟨i, -, rfl⟩ := Finset.mem_map.mp hx
    exact Finset.mem_erase.mpr ⟨fun h => (by cases h), Finset.mem_univ _⟩
  · rw [bigSep_map]
    exact bigSep_mono fun i _ => Entails.of_eq (congrArg cred (launch_recv c i))

end Cert.KernelIdeal.Attn

end
-- ==== Proof.Run.lean ====
/-
The run of the whole program: every device's kernel runs, its result array ends at `outAt`, its three
argument arrays unchanged, and every counter at zero.
-/
module

public import proofs.«01_k».proof.Proof.Alloc
public import proofs.«01_k».proof.Proof.Gen.KernelIdeal.Points
public import Idealize.ShloMosaic.Lib.Pipeline.CollectiveSegs
public import Idealize.ShloMosaic.Lib.StableHlo.RunHlo

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## The data of the one pipeline -/

/-- What a device's body starts from beside its buffers. -/
def start (c : Dev nD) : sProp 𝕄 :=
  iprop(dealt m c ∗ (cred (tallyAt (barCell c) () 3) ∗ each (fun i => cred (tallyAt (recvCell i c) () (amt i)))) ∗ levAts L lv)

/-- What a device holds before its body, and after. -/
def before (c : Dev nD) : sProp 𝕄 := iprop(start m c ∗ buffers c)
def afterwards (c : Dev nD) : sProp 𝕄 :=
  iprop(semVal (barCell c) 0 ∗ (each (fun i => semVal (sendCell i c) 0) ∗ each (fun i => semVal (recvCell i c) 0)) ∗ buffers c)

/-- Arrays at launch contents; blocks staged whole; all nine transfers and three signals owed, then nothing. -/
def dats (_ : Fin 1) (c : Dev nD) : Dat τ (Elt F) Unit ℕ UU ℕ cfg0 c where
  A w := m ((cfg0.win w).arr.view.loc (c : Thread nD τ))
  after w _ := match w with
    | ⟨0, _⟩ => qst m c
    | ⟨1, _⟩ => kst m c
    | ⟨2, _⟩ => vst m c
    | ⟨3, _⟩ => outAt m c
  Φ t := match t with
    | ⟨0, _⟩ => before m c
    | ⟨_ + 1, _⟩ => afterwards c
  q _ := fullShare
  owed t := match t with
    | ⟨0, _⟩ => O₀ c
    | ⟨_ + 1, _⟩ => 0

theorem windows (Φ : Fin cfg0.W → sProp 𝕄) : bigSep Finset.univ Φ = iprop(Φ (0 : Fin 4) ∗ Φ (1 : Fin 4) ∗ Φ (2 : Fin 4) ∗ Φ (3 : Fin 4)) := bigSep_W0 Φ

theorem staged_in (c : Dev nD) (d₀ d₁ d₂) : (dats m 0 c).before (0 : Fin 4) t0_0 d₀ = qst m c
    ∧ (dats m 0 c).before (1 : Fin 4) t0_0 d₁ = kst m c ∧ (dats m 0 c).before (2 : Fin 4) t0_0 d₂ = vst m c :=
  ⟨by unfold Dat.before; rw [if_pos (fetch0_0 _)]; rfl, by unfold Dat.before; rw [if_pos (fetch0_1 _)]; rfl, by unfold Dat.before; rw [if_pos (fetch0_2 _)]; rfl⟩

/-- The memref of a whole buffer is owned at the contents of the buffer. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄) = (((c : Thread nD τ).loc b) ↦{fullShare} X) := by
  refine BI.equiv_iff.mp ⟨?_, ?_⟩
  · unfold owns; simp only [Memref.view_whole, View.read_whole, View.set_whole]
    show iprop(∃ f : Buf (Elt F) ((c : Thread nD τ).loc b), ⌜f = X⌝ ∗ (((c : Thread nD τ).loc b) ↦{fullShare} f)) ⊢ _
    iintro ⟨%f, %h, H⟩
    rw [← h]; iexact H
  · unfold owns; simp only [Memref.view_whole, View.read_whole, View.set_whole]
    show _ ⊢ iprop(∃ f : Buf (Elt F) ((c : Thread nD τ).loc b), ⌜f = X⌝ ∗ (((c : Thread nD τ).loc b) ↦{fullShare} f))
    iintro H
    iexists X
    isplitr; · ipureintro; rfl
    iexact H

theorem staged_eq (c : Dev nD) (g : (cc0_stg3_0 : Ref sig .tc).ty.Contents (Elt F)) : (staged m c g : sProp 𝕄)
    = iprop((((c : Thread nD τ).loc cc0_stg0_0) ↦{fullShare} qst m c) ∗ (((c : Thread nD τ).loc cc0_stg1_0) ↦{fullShare} kst m c)
      ∗ (((c : Thread nD τ).loc cc0_stg2_0) ↦{fullShare} vst m c) ∗ (((c : Thread nD τ).loc cc0_stg3_0) ↦{fullShare} g)) := by
  unfold staged pt; simp only [Memref.view_whole, View.set_whole]; try rfl
theorem buffers_eq (c : Dev nD) : (buffers c : sProp 𝕄) = Pipeline.scopedRest cfg0.spec c := by
  rw [show (Pipeline.scopedRest cfg0.spec c : sProp 𝕄) = _ from scopedRest0_eq c]
  unfold buffers pt; simp only [Memref.view_whole, View.set_whole]; rfl

/-! ## The body's obligation -/

/-- The obligation's two sides. -/
def obPre (c : Dev nD) : sProp 𝕄 :=
  iprop(before m c ∗ (dats m 0 c).owesAt () t0_0.castSucc
    ∗ (∃ d, ((c : Thread nD τ).loc cc0_stg0_0) ↦{fullShare} (dats m 0 c).before (0 : Fin 4) t0_0 d)
    ∗ (∃ d, ((c : Thread nD τ).loc cc0_stg1_0) ↦{fullShare} (dats m 0 c).before (1 : Fin 4) t0_0 d)
    ∗ (∃ d, ((c : Thread nD τ).loc cc0_stg2_0) ↦{fullShare} (dats m 0 c).before (2 : Fin 4) t0_0 d)
    ∗ (∃ d, ((c : Thread nD τ).loc cc0_stg3_0) ↦{fullShare} (dats m 0 c).before (3 : Fin 4) t0_0 d))
def obPost (c : Dev nD) : sProp 𝕄 :=
  iprop(afterwards c ∗ (dats m 0 c).owesAt () t0_0.succ
    ∗ (((c : Thread nD τ).loc cc0_stg0_0) ↦{fullShare} qst m c) ∗ (((c : Thread nD τ).loc cc0_stg1_0) ↦{fullShare} kst m c)
    ∗ (((c : Thread nD τ).loc cc0_stg2_0) ↦{fullShare} vst m c) ∗ (((c : Thread nD τ).loc cc0_stg3_0) ↦{fullShare} outAt m c))

theorem ob_in (c : Dev nD) : obPre m c ⊢ iprop(∃ K, ∃ g, bodyPre m K c g) := by
  unfold obPre before start dealt linear payDuties Dat.owesAt Pipeline.owesWithin bodyPre known ow
  rw [show (dats m 0 c).owed t0_0.castSucc = O₀ c from rfl]
  simp only [each_sep, staged_eq]
  iintro ⟨⟨⟨⟨%K, #HR, ⟨HaB, HaS, HaV⟩, Hd, Hs⟩, ⟨HcB, HcV⟩, #HL⟩, Hb⟩, ⟨%W, %hW, HO⟩, ⟨%d0, H0⟩, ⟨%d1, H1⟩, ⟨%d2, H2⟩, ⟨%d3, H3⟩⟩
  rw [(staged_in m c d0 d1 d2).1, (staged_in m c d0 d1 d2).2.1, (staged_in m c d0 d1 d2).2.2]
  iexists K
  iexists ((dats m 0 c).before (3 : Fin 4) t0_0 d3)
  isplitr
  · isplitr; · iexact HR
    iexact HL
  isplitl [HO]; · iexists W; iexact HO
  isplitl [Hd]; · iexact Hd
  isplitl [HcB HaB]
  · isplitl [HcB]; · iexact HcB
    iexact HaB
  isplitl [Hs]; · iexact Hs
  isplitl [HcV HaV]
  · isplitl [HcV]; · iexact HcV
    iexact HaV
  isplitl [HaS]; · iexact HaS
  isplitl [H0 H1 H2 H3]
  · isplitl [H0]; · iexact H0
    isplitl [H1]; · iexact H1
    isplitl [H2]; · iexact H2
    iexact H3
  iexact Hb

theorem ob_out (c : Dev nD) : bodyPost m c ⊢ obPost m c := by
  unfold obPost afterwards bodyPost ow Dat.owesAt Pipeline.owesWithin
  rw [show (dats m 0 c).owed t0_0.succ = 0 from rfl, staged_eq]
  iintro ⟨⟨%W, HO⟩, HB, HS, HV, Hg, Hb⟩
  isplitl [HB HS HV Hb]
  · isplitl [HB]; · iexact HB
    isplitl [HS HV]
    · isplitl [HS]; · iexact HS
      iexact HV
    iexact Hb
  isplitl [HO]
  · iexists W
    isplitr; · ipureintro; exact fun _ _ => Or.inl trivial
    iexact HO
  iexact Hg

theorem ob_run (c : Dev nD) : obPre m c ⊢ wp frame (wpE (defs₀ (F := F)) 𝒱₀ (c : Thread nD τ) none) Set.univ (cc0_body (wM cc0_stg0_0) (Memref.isWhole_whole _) (wM cc0_stg1_0) (Memref.isWhole_whole _) (wM cc0_stg2_0) (Memref.isWhole_whole _) (wM cc0_stg3_0) (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) cc0_scratch8 cc0_scratch9) (fun _ => obPost m c) := by
  refine (ob_in m c).trans ?_
  iintro ⟨%K, %g, H⟩
  iapply ((run_body m K c g).trans (wp_mono _ _ _ fun _ => ob_out m c)) $$ H

set_option maxRecDepth 4000 in
theorem obligation (c : Dev nD) : BodyObligation (dats (F := F) m 0 c) (defs₀ (F := F)) 𝒱₀ () Set.univ := fun t => by
  rw [fin_N0 t, windows, windows]
  simp only [owns_buffer]
  exact ob_run m c

/-! ## The launch's side conditions -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, ← buffers_eq]
  unfold before
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = afterwards c from rfl, ← buffers_eq, ownSems_eq, unscopedSems_eq]
  unfold afterwards
  exact Entails.refl _

/-- The staging's own waits come before everything owed. -/
theorem waits (c : Dev nD) : (levAts L lv : sProp 𝕄) ⊢ Pipeline.cellsWaits cfgs (dats m) () 0 c :=
  Pipeline.cellsWaits_intro cfgs (dats m) () 0 c fun w s t =>
    mayWait c _ 0 (by fin_cases w <;> fin_cases s <;> decide) _ (by
      rcases t with ⟨_ | _, ht⟩
      · exact above_O₀ c
      · exact above_zero 0)

/-! ## The run -/

/-- A window's array after the run. -/
def final (c : Dev nD) (w : Fin cfg0.W) : Buf (Elt F) ((cfg0.win w).arr.view.loc (c : Thread nD τ)) := (dats m 0 c).arrAt w cfg0.N

set_option maxRecDepth 8000 in
theorem run_windows : θ_run defs (onTc (τ := τ) (main (F := F))) ⟨m, fun _ => 0, ρ⟩
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := minted m) (G' := dealt m) (u₀ := u₀)
    (hu₀ := by
      unfold u₀
      iintro Hu
      icases (ownU_pair _ _) $$ Hu with ⟨HP, HX⟩
      imod (mint m) $$ HX with HG
      imodintro
      isplitl [HP] <;> iassumption)
    (hglob := deal m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays are not written. -/
theorem final_in (c : Dev nD) : final m c (0 : Fin 4) = m ((c : Thread nD τ).loc main_arg0) ∧ final m c (1 : Fin 4) = m ((c : Thread nD τ).loc main_arg1)
    ∧ final m c (2 : Fin 4) = m ((c : Thread nD τ).loc main_arg2) :=
  ⟨(dats m 0 c).arrAt_in (0 : Fin 4) rfl _, (dats m 0 c).arrAt_in (1 : Fin 4) rfl _, (dats m 0 c).arrAt_in (2 : Fin 4) rfl _⟩

/-- The one block of a window is its whole array. -/
theorem blk_read (c : Dev nD) : (∀ f : Buf (Elt F) ((c : Thread nD τ).loc main_arg0), (win0_0.blk (0 : Fin 1)).view.read (Elt F) f = f)
    ∧ (∀ f : Buf (Elt F) ((c : Thread nD τ).loc main_arg1), (win0_1.blk (0 : Fin 1)).view.read (Elt F) f = f)
    ∧ (∀ f : Buf (Elt F) ((c : Thread nD τ).loc main_arg2), (win0_2.blk (0 : Fin 1)).view.read (Elt F) f = f)
    ∧ (∀ f : Buf (Elt F) ((c : Thread nD τ).loc main_v1), (win0_3.blk (0 : Fin 1)).view.read (Elt F) f = f) := by
  have hz : ∀ k : Fin 2 → ℕ, (fun a => 0 * k a) = fun _ => 0 := fun k => funext fun a => Nat.zero_mul _
  exact ⟨fun f => Memref.read_access_unit_zero (Elt F) main_arg0 (hz _) _ f, fun f => Memref.read_access_unit_zero (Elt F) main_arg1 (hz _) _ f,
    fun f => Memref.read_access_unit_zero (Elt F) main_arg2 (hz _) _ f, fun f => Memref.read_access_unit_zero (Elt F) main_v1 (hz _) _ f⟩

/-- The staged blocks are the argument arrays. -/
theorem staged_args (c : Dev nD) : qst m c = m ((c : Thread nD τ).loc main_arg0) ∧ kst m c = m ((c : Thread nD τ).loc main_arg1) ∧ vst m c = m ((c : Thread nD τ).loc main_arg2) :=
  ⟨(blk_read c).1 _, (blk_read c).2.1 _, (blk_read c).2.2.1 _⟩

/-- The result array ends at what the body leaves. -/
theorem final_out (c : Dev nD) : final m c (3 : Fin 4) = outAt m c := by
  have hw : ((cfg0.win (3 : Fin 4)).blk t0_0).view.read (Elt F) ((dats m 0 c).arrAt (3 : Fin 4) cfg0.N) = (dats m 0 c).flushed (3 : Fin 4) t0_0 := by
    rw [show cfg0.N = t0_0.val + 1 from rfl, (dats m 0 c).arrAt_succ (3 : Fin 4) t0_0, flush0_3, if_pos rfl]
    exact View.read_write_univ _ _
  exact ((blk_read c).2.2.2 _).symm.trans hw

/-- From any contents of the arrays, every fair run ends, the result arrays at `outAt`, the arguments unchanged and every
    counter at zero. -/
theorem run : θ_run defs (onTc (τ := τ) (main (F := F))) ⟨m, fun _ => 0, ρ⟩
    (fun r => (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  θ_run_mono (run_windows m ρ) fun r h => ⟨fun c => ⟨(h.1 c 3).trans (final_out m c), (h.1 c 0).trans (final_in m c).1,
    (h.1 c 1).trans (final_in m c).2.1, (h.1 c 2).trans (final_in m c).2.2⟩, h.2⟩

end Cert.KernelIdeal.Attn

end
-- ==== Proof.Frames.lean ====
/-
The program as written and as read over the reals are one text, so the run proved for the latter is the
former's too; and the frames of the three programs: each terminates without a fault, its arguments unchanged
and every counter back at zero.
-/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## One text -/

set_option maxRecDepth 20000 in
theorem bodies_eq : (Cert.Kernel.defs₀ (F := F)) = Cert.KernelIdeal.defs₀ := by
  unfold Cert.Kernel.defs₀ Cert.KernelIdeal.defs₀
  refine congrArg Defs.onTc (funext fun ℓ => ?_)
  rcases ℓ with ⟨_ | _, hl⟩
  · rfl
  · exact absurd hl (Nat.not_lt.2 (Nat.le_add_left _ _))

set_option maxRecDepth 20000 in
theorem defs_eq : (Cert.Kernel.defs (F := F)) = Cert.KernelIdeal.defs := by
  unfold Cert.Kernel.defs Cert.KernelIdeal.defs
  rw [bodies_eq]
  rfl

set_option maxRecDepth 20000 in
theorem main_eq : (Cert.Kernel.main (F := F)) = Cert.KernelIdeal.main := rfl

set_option maxRecDepth 20000 in
/-- The kernel's own run. -/
theorem run_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq]
  exact θ_run_mono (run (F := F) m ρ) fun r h => ⟨fun c => (h.1 c).2, h.2⟩

/-! ## The frames -/

theorem frame_kernel : Cert.quiescent_Kernel := fun m g _ => run_kernel (F := Bits) m g
theorem frame_ideal : Cert.quiescent_KernelIdeal := fun m g _ => θ_run_mono (run (F := Ideal) m g) fun r h => ⟨fun c => (h.1 c).2, h.2⟩
theorem frame_ideal_pre [Cert.Pre_finite_scores_KernelIdeal.Facts] : Cert.quiescent_KernelIdeal_pre_finite_scores_KernelIdeal :=
  fun m g _ => θ_run_mono (run (F := Ideal) m g) fun r h => ⟨fun c => (h.1 c).2, h.2⟩

/-- The reference has one device and no counter. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  θ_run_mono (Cert.ReferenceIdeal.Value.run (F := Ideal) m g) fun r h => ⟨fun c => (h c).2, funext fun x => by
    rcases x with ⟨_, q⟩
    cases q with
    | reg q => exact q.elim0
    | dma q => exact q.elim0⟩

theorem frame_reference : Cert.quiescent_ReferenceIdeal := fun m g _ => run_reference m g
theorem frame_reference_pre [Cert.Pre_finite_scores_ReferenceIdeal.Facts] : Cert.quiescent_ReferenceIdeal_pre_finite_scores_ReferenceIdeal :=
  fun m g _ => run_reference m g

end Cert.KernelIdeal.Attn

end
-- ==== Proof.Softmax.lean ====
/-
Softmax over the extended reals, two ways: all scores at once, and chunk by chunk with a running maximum.
The scores are real numbers and the values are arbitrary. Both ways give the same weighted sum: a softmax
does not depend on the score its weights are taken relative to.
-/
module

public import Idealize.ShloMosaic.PureOps.Ideal
public import Idealize.ShloMosaic.PureOps.Ideal.Laws

@[expose] public section

noncomputable section

namespace Cert.KernelIdeal.Attn

open Idealize.ShloMosaic
open scoped BigOperators

/-! ## Sums of extended reals -/

section Sums
variable {ι : Type}

/-- A sum of real numbers, taken in the extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a sum of any extended reals. -/
theorem coe_mul_add {c : ℝ} (hc : 0 ≤ c) (x y : EReal) : (c : EReal) * (x + y) = c * x + c * y :=
  EReal.left_distrib_of_nonneg_of_ne_top (by exact_mod_cast hc) (EReal.coe_ne_top c) x y
theorem coe_mul_sum (s : Finset ι) {c : ℝ} (hc : 0 ≤ c) (f : ι → EReal) : (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

theorem coe_max (x y : ℝ) : ((max x y : ℝ) : EReal) = max (x : EReal) y := EReal.coe_strictMono.monotone.map_max

/-- The greatest of finitely many real numbers and one more is a real number. -/
theorem fold_max_real (s : Finset ι) (f : ι → ℝ) (b : EReal) (hb : b = ⊥ ∨ ∃ x : ℝ, b = x) (h : s.Nonempty ∨ ∃ x : ℝ, b = x) :
    ∃ x : ℝ, s.fold max b (fun i => (f i : EReal)) = x := by
  classical
  have key : ∀ t : Finset ι, (t = ∅ ∧ t.fold max b (fun i => (f i : EReal)) = b) ∨ ∃ x : ℝ, t.fold max b (fun i => (f i : EReal)) = x := by
    intro t
    induction t using Finset.induction_on with
    | empty => exact .inl ⟨rfl, rfl⟩
    | insert a t ha ih =>
      refine .inr ?_
      rw [Finset.fold_insert ha]
      rcases ih with ⟨_, e⟩ | ⟨x, e⟩ <;> rw [e]
      · rcases hb with rfl | ⟨y, rfl⟩
        · exact ⟨f a, max_eq_left bot_le⟩
        · exact ⟨max (f a) y, (coe_max _ _).symm⟩
      · exact ⟨max (f a) x, (coe_max _ _).symm⟩
  rcases key s with ⟨he, e⟩ | h'
  · rcases h with hne | ⟨x, hx⟩
    · exact absurd he hne.ne_empty
    · exact ⟨x, e.trans hx⟩
  · exact h'
end Sums

/-! ## The softmax -/

section Soft
variable {ι : Type} [Fintype ι]

/-- The softmax of the scores `s`, at `j`. -/
def soft (s : ι → ℝ) (j : ι) : ℝ := Real.exp (s j) / ∑ i, Real.exp (s i)
/-- The values `v`, weighted by it. -/
def softmaxOf (s : ι → ℝ) (v : ι → EReal) : EReal := ∑ j, (soft s j : EReal) * v j

/-- It does not matter which score the weights are relative to. -/
theorem soft_shift (s : ι → ℝ) (μ : ℝ) (j : ι) : Real.exp (s j - μ) / ∑ i, Real.exp (s i - μ) = soft s j := by
  unfold soft
  have h : ∀ i, Real.exp (s i - μ) = Real.exp (s i) * Real.exp (-μ) := fun i => by rw [sub_eq_add_neg, Real.exp_add]
  simp only [h]
  rw [← Finset.sum_mul, mul_div_mul_right _ _ (Real.exp_pos _).ne']

/-- A quotient by a real number that is not zero. -/
theorem div_real {y : ℝ} (hy : y ≠ 0) (x : ℝ) : Ideal.div (x : EReal) (y : EReal) = ((x / y : ℝ) : EReal) := by
  rw [Ideal.div_coe hy, ← EReal.coe_mul, mul_one_div]

theorem sum_exp_pos [Nonempty ι] (s : ι → ℝ) (μ : ℝ) : 0 < ∑ i, Real.exp (s i - μ) :=
  Finset.sum_pos (fun i _ => Real.exp_pos _) Finset.univ_nonempty

/-- All scores at once: weights relative to any score `μ`, each divided by their sum. -/
theorem whole_eq [Nonempty ι] (s : ι → ℝ) (v : ι → EReal) (μ : ℝ) :
    ∑ j, Ideal.div (Ideal.exp ((s j : EReal) - μ)) (∑ i, Ideal.exp ((s i : EReal) - μ)) * v j = softmaxOf s v := by
  unfold softmaxOf
  refine Finset.sum_congr rfl fun j _ => congrArg (· * v j) ?_
  simp only [← EReal.coe_sub, Ideal.exp_coe]
  rw [← coe_sum, div_real (sum_exp_pos s μ).ne', soft_shift]

/-- The weighted sum first, and one division after it. -/
theorem divided_eq [Nonempty ι] (s : ι → ℝ) (v : ι → EReal) (μ : ℝ) :
    Ideal.div (∑ j, (Real.exp (s j - μ) : EReal) * v j) ((∑ i, Real.exp (s i - μ) : ℝ) : EReal) = softmaxOf s v := by
  have hp := sum_exp_pos s μ
  rw [Ideal.div_coe hp.ne', mul_comm, coe_mul_sum _ (by positivity)]
  refine Finset.sum_congr rfl fun j _ => ?_
  rw [← soft_shift s μ j, ← mul_assoc, ← EReal.coe_mul, one_div_mul_eq_div]
end Soft

/-! ## Chunk by chunk -/

section Chunks
variable {κ : Type} [Fintype κ]

/-- What is kept for one query row and one column: the largest score, the sum of the weights, the weighted sum. -/
@[ext] structure Kept where
  M : EReal
  l : EReal
  a : EReal

/-- One chunk more, of scores `s` and values `v`. -/
def Kept.next (K : Kept) (s v : κ → EReal) : Kept where
  M := max K.M (Finset.univ.fold max ⊥ s)
  l := K.l * Ideal.exp (K.M - max K.M (Finset.univ.fold max ⊥ s)) + ∑ k, Ideal.exp (s k - max K.M (Finset.univ.fold max ⊥ s))
  a := K.a * Ideal.exp (K.M - max K.M (Finset.univ.fold max ⊥ s)) + ∑ k, Ideal.exp (s k - max K.M (Finset.univ.fold max ⊥ s)) * v k

/-- What is kept after the chunks below `n`, starting from the score `b`. -/
def keptAt (b : ℝ) (s v : ℕ → κ → EReal) : ℕ → Kept
  | 0 => ⟨b, 0, 0⟩
  | n + 1 => (keptAt b s v n).next (s n) (v n)

/-- Both sums are those of all the chunks so far, relative to a real score. -/
theorem keptAt_eq [Nonempty κ] (b : ℝ) (s : ℕ → κ → ℝ) (v : ℕ → κ → EReal) (n : ℕ) :
    ∃ μ : ℝ, keptAt b (fun i k => (s i k : EReal)) v n
      = ⟨μ, ((∑ i ∈ Finset.range n, ∑ k, Real.exp (s i k - μ) : ℝ) : EReal), ∑ i ∈ Finset.range n, ∑ k, (Real.exp (s i k - μ) : EReal) * v i k⟩ := by
  induction n with
  | zero => exact ⟨b, by simp [keptAt]⟩
  | succ n ih =>
    obtain ⟨μ, e⟩ := ih
    obtain ⟨x, hx⟩ := fold_max_real Finset.univ (s n) ⊥ (.inl rfl) (.inl Finset.univ_nonempty)
    refine ⟨max μ x, ?_⟩
    have hmax : max (μ : EReal) (x : EReal) = ((max μ x : ℝ) : EReal) := (coe_max μ x).symm
    have hw : ∀ i k, Real.exp (μ - max μ x) * Real.exp (s i k - μ) = Real.exp (s i k - max μ x) := fun i k => by
      rw [← Real.exp_add]; congr 1; ring
    rw [keptAt, e, Kept.next]
    simp only [hx, hmax, ← EReal.coe_sub, Ideal.exp_coe]
    congr 1
    · rw [← EReal.coe_mul, ← coe_sum, ← EReal.coe_add, Finset.sum_range_succ, mul_comm, Finset.mul_sum]
      simp only [Finset.mul_sum, hw]
    · rw [Finset.sum_range_succ, mul_comm, coe_mul_sum _ (Real.exp_pos _).le]
      simp only [coe_mul_sum _ (Real.exp_pos _).le, ← mul_assoc, ← EReal.coe_mul, hw]

/-- The chunks' scores being those of `ι`, each once: dividing the two sums gives the softmax. -/
theorem kept_softmax [Nonempty κ] {ι : Type} [Fintype ι] [Nonempty ι] (b : ℝ) (N : ℕ) (e : Fin N × κ → ι) (he : Function.Bijective e)
    (S : ι → ℝ) (V : ι → EReal) (s v : ℕ → κ → EReal)
    (hs : ∀ (n : Fin N) k, s n k = (S (e (n, k)) : EReal)) (hv : ∀ (n : Fin N) k, v n k = V (e (n, k))) :
    Ideal.div (keptAt b s v N).a (keptAt b s v N).l = softmaxOf S V := by
  classical
  have cut : ∀ n ≤ N, keptAt b s v n
      = keptAt b (fun i k => ((if h : i < N then S (e (⟨i, h⟩, k)) else 0 : ℝ) : EReal)) v n := by
    intro n hn
    induction n with
    | zero => rfl
    | succ n ih =>
      rw [keptAt, keptAt, ih (Nat.le_of_succ_le hn)]
      congr 1
      funext k
      rw [dif_pos (Nat.lt_of_succ_le hn)]
      exact hs ⟨n, Nat.lt_of_succ_le hn⟩ k
  rw [cut N le_rfl]
  obtain ⟨μ, h⟩ := keptAt_eq b (fun i k => if h : i < N then S (e (⟨i, h⟩, k)) else 0) v N
  rw [h]
  have sums : ∀ {A : Type} [AddCommMonoid A] (f : ℕ → κ → A) (g : ι → A) (hf : ∀ (n : Fin N) k, f n k = g (e (n, k))),
      ∑ i ∈ Finset.range N, ∑ k, f i k = ∑ j, g j := by
    intro A _ f g hf
    rw [Finset.sum_range, ← (Equiv.ofBijective e he).sum_comp, Fintype.sum_prod_type]
    exact Finset.sum_congr rfl fun n _ => Finset.sum_congr rfl fun k _ => hf n k
  dsimp only
  rw [sums (fun i k => Real.exp ((if h : i < N then S (e (⟨i, h⟩, k)) else 0) - μ)) (fun j => Real.exp (S j - μ)) (fun n k => by rw [dif_pos n.2]),
    sums (fun i k => (Real.exp ((if h : i < N then S (e (⟨i, h⟩, k)) else 0) - μ) : EReal) * v i k) (fun j => (Real.exp (S j - μ) : EReal) * V j)
      (fun n k => by rw [dif_pos n.2, hv n k])]
  exact divided_eq S V μ
end Chunks

end Cert.KernelIdeal.Attn

end
-- ==== Proof.Reads.lean ====
/-
The kernel's arithmetic read element by element, over the reals: one row of scores, one step of what is
kept, and where in the arguments each chunk's keys and values lie.
-/
module

public import proofs.«01_k».proof.Proof.Spec
public import proofs.«01_k».proof.Proof.Softmax
public import Idealize.ShloMosaic.Lib.Pointwise
public import Idealize.ShloMosaic.Lib.IdealHost
public import Idealize.ShloMosaic.Lib.Pipeline.Value

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Three constants -/

/-- The pattern a maximum starts from is the least extended real. -/
theorem ofBits_least : Ideal.ofBits .f32 0xFF800000#32 = ⊥ := by simp [Ideal.ofBits, Ideal.ieee]
/-- The pattern the running maximum starts from is some real number. -/
theorem ofBits_start : ∃ b : ℝ, Ideal.ofBits .f32 0xF149F2CA#32 = b := by
  unfold Ideal.ofBits Ideal.ieee
  dsimp only
  rw [if_neg (by decide), if_neg (by decide)]
  exact ⟨_, rfl⟩
/-- The pattern whose root the reference divides by is 256. -/
theorem ofBits_width : Ideal.ofBits .f32 0x43800000#32 = ((256 : ℝ) : EReal) := by
  simp [Ideal.ofBits, Ideal.ieee, -EReal.coe_mul]; norm_num

/-! ## One step -/

section Step
variable (q : FVec Ideal S2048x256 .bf16) (k v : FVec Ideal S512x256 .bf16) (r : Fin 2048)

theorem score_apply (j : Fin 512) : score q k (ix2 r j) = ∑ d : Fin 256, q (ix2 r d) * k (ix2 j d) := by
  pointwise [score]

theorem newMax_apply (M : FVec Ideal S2048x1 .f32) (s : FVec Ideal S2048x512 .f32) :
    newMax M s (ix2 r 0) = max (M (ix2 r 0)) (Finset.univ.fold max ⊥ fun j : Fin 512 => s (ix2 r j)) := by
  pointwise [newMax]
  rw [ofBits_least]

theorem weight_apply (s : FVec Ideal S2048x512 .f32) (M : FVec Ideal S2048x1 .f32) (j : Fin 512) :
    weight s M (ix2 r j) = Ideal.exp (s (ix2 r j) - M (ix2 r 0)) := by
  pointwise [weight]

theorem rescale_apply (M M' : FVec Ideal S2048x1 .f32) : rescale M M' (ix2 r 0) = Ideal.exp (M (ix2 r 0) - M' (ix2 r 0)) := by
  pointwise [rescale]

theorem rowSum_apply (p : FVec Ideal S2048x512 .f32) :
    shapeCast S2048x1 (rowSum p) shapeCasts_S2048_S2048x1 (ix2 r 0) = ∑ j : Fin 512, p (ix2 r j) := by
  pointwise [rowSum]

theorem scaleL_apply (l C : FVec Ideal S2048x1 .f32) : scaleL l C (ix2 r 0) = l (ix2 r 0) * C (ix2 r 0) := by
  pointwise [scaleL]

theorem scaleA_apply (a : FVec Ideal S2048x256 .f32) (C : FVec Ideal S2048x1 .f32) (d : Fin 256) :
    scaleA a C (ix2 r d) = a (ix2 r d) * C (ix2 r 0) := by
  pointwise [scaleA]

theorem weighted_apply (p : FVec Ideal S2048x512 .f32) (d : Fin 256) :
    weighted p v (ix2 r d) = ∑ j : Fin 512, p (ix2 r j) * v (ix2 j d) := by
  pointwise [weighted]

/-- What a state keeps for row `r` and column `d`. -/
def St.at (S : St Ideal) (r : Fin 2048) (d : Fin 256) : Kept := ⟨S.M (ix2 r 0), S.l (ix2 r 0), S.a (ix2 r d)⟩

/-- One step, for one row and one column. -/
theorem step_at (S : St Ideal) (d : Fin 256) :
    (step q k v S).at r d = (S.at r d).next (fun j => ∑ e : Fin 256, q (ix2 r e) * k (ix2 j e)) (fun j => v (ix2 j d)) := by
  have hM : newMax S.M (score q k) (ix2 r 0) = max (S.M (ix2 r 0)) (Finset.univ.fold max ⊥ fun j : Fin 512 => ∑ e : Fin 256, q (ix2 r e) * k (ix2 j e)) := by
    rw [newMax_apply]; simp only [score_apply]
  have hw : ∀ j, weight (score q k) (newMax S.M (score q k)) (ix2 r j) = Ideal.exp ((∑ e : Fin 256, q (ix2 r e) * k (ix2 j e)) - max (S.M (ix2 r 0)) (Finset.univ.fold max ⊥ fun j : Fin 512 => ∑ e : Fin 256, q (ix2 r e) * k (ix2 j e))) := fun j => by
    rw [weight_apply, score_apply, hM]
  have hc := rescale_apply r S.M (newMax S.M (score q k))
  rw [hM] at hc
  refine Kept.ext hM ?_ ?_
  · show addf (scaleL S.l (rescale S.M (newMax S.M (score q k)))) (shapeCast S2048x1 (rowSum (weight (score q k) (newMax S.M (score q k)))) shapeCasts_S2048_S2048x1) (ix2 r 0) = _
    rw [ValueIdx.addf_apply, scaleL_apply, rowSum_apply, hc]; simp only [hw]; rfl
  · show addf (scaleA S.a (rescale S.M (newMax S.M (score q k)))) (weighted (weight (score q k) (newMax S.M (score q k))) v) (ix2 r d) = _
    rw [ValueIdx.addf_apply, scaleA_apply, weighted_apply, hc]; simp only [hw]; rfl
end Step

theorem quotient_apply (l : FVec Ideal S2048x1 .f32) (a : FVec Ideal S2048x256 .f32) (r : Fin 2048) (d : Fin 256) :
    k0_pay1 l a (ix2 r d) = Ideal.div (a (ix2 r d)) (l (ix2 r 0)) := by
  pointwise [k0_pay1]

theorem scaled_apply (x : FVec Ideal S2048x256 .bf16) (r : Fin 2048) (d : Fin 256) :
    k0_pay4 x (ix2 r d) = x (ix2 r d) * ((1 / 16 : ℝ) : EReal) := by
  pointwise [k0_pay4]
  exact congrArg _ Ideal.ofBits_sixteenth_bf16

theorem start_at (r : Fin 2048) (d : Fin 256) : ∃ b : ℝ, (⟨k0_pay5, k0_pay6, k0_pay7⟩ : St Ideal).at r d = ⟨b, 0, 0⟩ := by
  unfold St.at
  pointwise [k0_pay5, k0_pay6, k0_pay7]
  obtain ⟨b, e⟩ := ofBits_start
  exact ⟨b, by rw [e]⟩

/-! ## The chunks -/

section Chunks
variable (m : (ℓ : Loc nD τ sig) → Buf (Elt Ideal) ℓ) (c : Dev nD)

/-- Row `j` of chunk `t` of one device, among that device's 2048 rows. -/
def rowIn (t : Fin 4) (j : Fin 512) : Fin 2048 := ⟨512 * t.val + j.val, by omega⟩

theorem piece_apply (p : Fin 2) (t : Fin 4) (X : KVt Ideal) (j : Fin 512) (d : Fin 256) :
    piece p t X (ix2 j d) = X (ix3 p (rowIn t j) d) := by
  refine (shapeCast_dropUnit_apply ![512, 256] _ _ _).trans ?_
  refine congrArg X (funext fun a => Fin.ext ?_)
  match a with
  | ⟨0, _⟩ => show p.val + 1 * 0 = p.val; omega
  | ⟨1, _⟩ => show 512 * t.val + 1 * j.val = 512 * t.val + j.val; omega
  | ⟨2, _⟩ => show 0 + 1 * d.val = d.val; omega

theorem keys_apply (r : Fin 2048) (d : Fin 256) : KV m c (ix3 0 r d) = kst m c (ix2 r d) := by
  unfold KV
  rw [if_pos (show ((ix3 (n0 := 2) 0 r d) 0).val = 0 from rfl)]
  unfold k0_pay2
  rw [shapeCast_self]
  refine (shapeCast_addUnit_apply ![2048, 256] _ _ _).trans (congrArg _ (funext fun a => ?_))
  match a with
  | ⟨0, _⟩ => rfl
  | ⟨1, _⟩ => rfl
theorem values_apply (r : Fin 2048) (d : Fin 256) : KV m c (ix3 1 r d) = vst m c (ix2 r d) := by
  unfold KV
  rw [if_neg (show ¬ ((ix3 (n0 := 2) 1 r d) 0).val = 0 from Nat.one_ne_zero)]
  unfold k0_pay3
  rw [shapeCast_self]
  refine (shapeCast_addUnit_apply ![2048, 256] _ _ _).trans (congrArg _ (funext fun a => ?_))
  match a with
  | ⟨0, _⟩ => rfl
  | ⟨1, _⟩ => rfl
end Chunks

end Cert.KernelIdeal.Attn

end
-- ==== Proof.RefValue.lean ====
/-
The reference's result read element by element, over the reals: for every query row, the softmax of its
scores against all the keys, and the values weighted by it.
-/
module

public import proofs.«01_k».proof.Proof.Reads
public import proofs.«01_k».proof.Proof.Gen.ReferenceIdeal
public import proofs.«01_k».proof.Proof.Gen.ReferenceIdeal.Run

@[expose] public section

noncomputable section

namespace Cert.ReferenceIdeal.Attn

open Cert.ReferenceIdeal Cert.ReferenceIdeal.Gen

open Idealize.ShloMosaic
open Idealize.ShloMosaic.TcCoe
open Idealize.SL.Sem
open Cert.KernelIdeal.Attn

variable (Q K V : FVec Ideal S16384x256 .bf16)

/-! ## The reference's steps -/

/-- Every score. -/
def refScore : FVec Ideal S16384x16384 .f32 :=
  Host.divf (Host.dotGeneral dot_S16384x256_S256x16384_S16384x16384_1_0_0_1_n_n none (extf .f32 Q bitsLt_bf16_f32)
    (transpose S256x16384 [1, 0] (extf .f32 K bitsLt_bf16_f32) transposes_S16384x256_S256x16384_1_0))
    (broadcastInDim S16384x16384 ![] bcast_S_S16384x16384 (id (Host.sqrt (constant S_ .f32 0x43800000#32))))
/-- The largest of each row. -/
def refMax (s : FVec Ideal S16384x16384 .f32) : FVec Ideal S16384 .f32 :=
  Host.reduce FloatOps.maximumf s (constant S_ .f32 0xFF800000#32) reducesTo_S16384x16384_S16384_d1 h_S_
/-- One number per row, along the row. -/
def along (x : FVec Ideal S16384 .f32) : FVec Ideal S16384x16384 .f32 :=
  broadcastInDim S16384x16384 ![0, 1] bcast_S16384x1_S16384x16384_0_1 (broadcastInDim S16384x1 ![0] bcast_S16384_S16384x1_0 x)
/-- The weights before they are divided. -/
def refWeight (s : FVec Ideal S16384x16384 .f32) : FVec Ideal S16384x16384 .f32 := Host.exp (subf s (along (refMax s)))
/-- Each row's sum. -/
def refSum (p : FVec Ideal S16384x16384 .f32) : FVec Ideal S16384 .f32 :=
  Host.reduceAdd p (constant S_ .f32 0x00000000#32) reducesTo_S16384x16384_S16384_d1 h_S_
/-- The result. -/
def refOut : FVec Ideal S16384x256 .f32 :=
  Host.dotGeneral dot_S16384x16384_S16384x256_S16384x256_1_0_0_1_n_n none
    (Host.divf (refWeight (refScore Q K)) (along (refSum (refWeight (refScore Q K))))) (extf .f32 V bitsLt_bf16_f32)

/-! ## Each of them at an index -/

section At
variable (i j : Fin 16384)

theorem refScore_apply : refScore Q K (ix2 i j) = Ideal.div (∑ d : Fin 256, Q (ix2 i d) * K (ix2 j d)) ((16 : ℝ) : EReal) := by
  have h16 : Ideal.sqrt (Ideal.ofBits .f32 0x43800000#32) = ((16 : ℝ) : EReal) := by
    rw [ofBits_width, Ideal.sqrt_coe, if_neg (by norm_num), show (256 : ℝ) = 16 ^ 2 by norm_num, Real.sqrt_sq (by norm_num)]
  pointwise [refScore]
  exact congrArg _ h16
theorem refMax_apply (s : FVec Ideal S16384x16384 .f32) : refMax s (ix1 i) = Finset.univ.fold max ⊥ fun j : Fin 16384 => s (ix2 i j) := by
  pointwise [refMax]
  rw [ofBits_least]
theorem along_apply (x : FVec Ideal S16384 .f32) : along x (ix2 i j) = x (ix1 i) := by
  pointwise [along]
theorem refWeight_apply (s : FVec Ideal S16384x16384 .f32) : refWeight s (ix2 i j) = Ideal.exp (s (ix2 i j) - refMax s (ix1 i)) := by
  rw [← along_apply i j (refMax s)]
  rfl
theorem refSum_apply (p : FVec Ideal S16384x16384 .f32) : refSum p (ix1 i) = ∑ j : Fin 16384, p (ix2 i j) := by
  pointwise [refSum]
theorem last_apply (p : FVec Ideal S16384x16384 .f32) (d : Fin 256) :
    Host.dotGeneral dot_S16384x16384_S16384x256_S16384x256_1_0_0_1_n_n none p (extf .f32 V bitsLt_bf16_f32) (ix2 i d) = ∑ j : Fin 16384, p (ix2 i j) * V (ix2 j d) := by
  pointwise []
end At

/-- The score of query row `i` and key row `j` when both are finite. -/
def realScore (i j : Fin 16384) : ℝ := (∑ d : Fin 256, (Q (ix2 i d)).toReal * (K (ix2 j d)).toReal) / 16

/-- No infinity among the elements. -/
def Finite {s : Shape} (X : s.Idx → EReal) : Prop := ∀ i, X i ≠ ⊤ ∧ X i ≠ ⊥

/-- Sums of products of finite elements are real. -/
theorem dot_real {ι : Type} [Fintype ι] (x y : ι → EReal) (hx : ∀ i, x i ≠ ⊤ ∧ x i ≠ ⊥) (hy : ∀ i, y i ≠ ⊤ ∧ y i ≠ ⊥) :
    ∑ i, x i * y i = ((∑ i, (x i).toReal * (y i).toReal : ℝ) : EReal) := by
  rw [coe_sum]
  refine Finset.sum_congr rfl fun i _ => ?_
  rw [EReal.coe_mul, EReal.coe_toReal (hx i).1 (hx i).2, EReal.coe_toReal (hy i).1 (hy i).2]

/-- The reference's result is the softmax of the real scores, applied to the values. -/
theorem refOut_apply (hQ : Finite Q) (hK : Finite K) (i : Fin 16384) (d : Fin 256) :
    refOut Q K V (ix2 i d) = softmaxOf (realScore Q K i) fun j => V (ix2 j d) := by
  have hs : ∀ j, refScore Q K (ix2 i j) = (realScore Q K i j : EReal) := fun j => by
    rw [refScore_apply, dot_real _ _ (fun d => hQ _) (fun d => hK _), div_real (by norm_num)]; rfl
  obtain ⟨μ, hμ⟩ := fold_max_real Finset.univ (realScore Q K i) ⊥ (.inl rfl) (.inl Finset.univ_nonempty)
  have hm : refMax (refScore Q K) (ix1 i) = (μ : EReal) := by rw [refMax_apply]; simp only [hs]; exact hμ
  have hw : ∀ j, refWeight (refScore Q K) (ix2 i j) = Ideal.exp ((realScore Q K i j : EReal) - μ) := fun j => by
    rw [refWeight_apply, hs, hm]
  rw [refOut, last_apply, ← whole_eq (realScore Q K i) _ μ]
  refine Finset.sum_congr rfl fun j _ => congrArg (· * V (ix2 j d)) ?_
  rw [ValueIdx.hostDivf_apply, along_apply, refSum_apply]
  simp only [hw]

/-- What the reference's run leaves is `refOut` of its three arguments. -/
theorem reference_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Attn

end
-- ==== Proof.Value.lean ====
/-
The kernel's result is the reference's. Each device's chunks are all the keys and values, each once, so the
sums a device keeps after its last chunk are those of the softmax over all of them; and each device's
result is its block of rows of the whole one. Queries and keys are finite; values are arbitrary.
-/
module

public import proofs.«01_k».proof.Proof.Run
public import proofs.«01_k».proof.Proof.Reads
public import proofs.«01_k».proof.Proof.RefValue
public import proofs.«01_k».proof.Defs
public import Idealize.ShloMosaic.Lib.ReduceAll

@[expose] public section

noncomputable section

namespace Cert.KernelIdeal.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Cert.ReferenceIdeal.Attn (refOut realScore Finite refOut_apply reference_value)

/-! ## The rows of the whole arrays -/

/-- An array of every device's rows. -/
abbrev Whole : Type := (⟨2, ![16384, 256]⟩ : Shape).Idx → EReal
/-- Device `c`'s rows of it. -/
abbrev rowsOf (c : Dev nD) (X : Whole) : (⟨2, ![2048, 256]⟩ : Shape).Idx → EReal := Layout.block ⟨2, ![2048, 256]⟩ ⟨2, ![16384, 256]⟩ 0 8 c X

/-- Row `r` of device `c`, among all the rows. -/
def rowOf (c : Dev nD) (r : Fin 2048) : Fin 16384 := ⟨c.val * 2048 + r.val, by have := c.isLt; change c.val < 8 at this; omega⟩

theorem rowsOf_apply (c : Dev nD) (X : Whole) (r : Fin 2048) (d : Fin 256) : rowsOf c X (ix2 r d) = X (ix2 (rowOf c r) d) :=
  congrArg X (funext fun a => Fin.ext (match a with
    | ⟨0, _⟩ => rfl
    | ⟨1, _⟩ => rfl))

/-- Every row is some device's. -/
theorem rowOf_surj (i : Fin 16384) : ∃ c r, rowOf c r = i :=
  ⟨⟨i.val / 2048, by show _ < 8; omega⟩, ⟨i.val % 2048, Nat.mod_lt _ (by decide)⟩, Fin.ext (by show i.val / 2048 * 2048 + i.val % 2048 = i.val; omega)⟩

/-- Row `j` of device `c`'s chunk `n`, among all the rows. -/
def chunkRow (c : Dev nD) (n : ℕ) (j : Fin 512) : Fin 16384 := rowOf (src c (n / 4)) (rowIn ⟨n % 4, Nat.mod_lt _ (by decide)⟩ j)

theorem src_injective (c : Dev nD) : ∀ g g' : Fin 8, src c g.val = src c g'.val → g = g' := by revert c; decide

/-- A device's chunks are all the rows, each once. -/
theorem chunkRow_bijective (c : Dev nD) : Function.Bijective fun x : Fin 32 × Fin 512 => chunkRow c x.1.val x.2 := by
  rw [Fintype.bijective_iff_injective_and_card]
  refine ⟨?_, by simp⟩
  rintro ⟨n, j⟩ ⟨n', j'⟩ e
  have hv : (src c (n.val / 4)).val * 2048 + (512 * (n.val % 4) + j.val) = (src c (n'.val / 4)).val * 2048 + (512 * (n'.val % 4) + j'.val) := congrArg Fin.val e
  have hg : src c (n.val / 4) = src c (n'.val / 4) := Fin.ext (by omega)
  have hn : n.val / 4 = n'.val / 4 := congrArg Fin.val (src_injective c ⟨n.val / 4, by omega⟩ ⟨n'.val / 4, by omega⟩ hg)
  rw [hg] at hv
  exact Prod.ext (Fin.ext (by show n.val = n'.val; omega)) (Fin.ext (by show j.val = j'.val; omega))

/-! ## What a device computes -/

section Device
variable (m : (ℓ : Loc nD τ sig) → Buf (Elt Ideal) ℓ) (Q K V : Whole)
variable (hQ : ∀ c : Dev nD, m ((c : Thread nD τ).loc main_arg0) = rowsOf c Q)
  (hK : ∀ c : Dev nD, m ((c : Thread nD τ).loc main_arg1) = rowsOf c K)
  (hV : ∀ c : Dev nD, m ((c : Thread nD τ).loc main_arg2) = rowsOf c V)
  (c : Dev nD)

include hK in
theorem kc_apply (n : ℕ) (j : Fin 512) (d : Fin 256) : kc m c n (ix2 j d) = K (ix2 (chunkRow c n j) d) := by
  rw [kc, piece_apply, keys_apply, (staged_args m _).2.1, hK]
  exact rowsOf_apply _ _ _ _
include hV in
theorem vc_apply (n : ℕ) (j : Fin 512) (d : Fin 256) : vc m c n (ix2 j d) = V (ix2 (chunkRow c n j) d) := by
  rw [vc, piece_apply, values_apply, (staged_args m _).2.2, hV]
  exact rowsOf_apply _ _ _ _
include hQ in
theorem qs_apply (r : Fin 2048) (d : Fin 256) : qs m c (ix2 r d) = Q (ix2 (rowOf c r) d) * ((1 / 16 : ℝ) : EReal) := by
  rw [qs, scaled_apply, (staged_args m _).1, hQ]
  exact congrArg (· * _) (rowsOf_apply _ _ _ _)

/-- What is kept of row `r` and column `d` after `n` chunks. -/
theorem st_at (r : Fin 2048) (d : Fin 256) : ∃ b : ℝ, ∀ n, (st m c n).at r d
    = keptAt b (fun n j => ∑ e : Fin 256, qs m c (ix2 r e) * kc m c n (ix2 j e)) (fun n j => vc m c n (ix2 j d)) n := by
  obtain ⟨b, hb⟩ := start_at r d
  refine ⟨b, fun n => ?_⟩
  induction n with
  | zero => exact hb
  | succ n ih => rw [st, step_at, ih, keptAt]

include hQ hK in
/-- Scaling the queries first, and dividing the scores after: one real number. -/
theorem score_real (hfQ : Finite Q) (hfK : Finite K) (r : Fin 2048) (n : ℕ) (j : Fin 512) :
    ∑ e : Fin 256, qs m c (ix2 r e) * kc m c n (ix2 j e) = (realScore Q K (rowOf c r) (chunkRow c n j) : EReal) := by
  unfold realScore
  rw [Finset.sum_div, coe_sum]
  refine Finset.sum_congr rfl fun e _ => ?_
  rw [qs_apply m Q hQ, kc_apply m K hK]
  have hq := hfQ (ix2 (rowOf c r) e)
  have hk := hfK (ix2 (chunkRow c n j) e)
  rw [← EReal.coe_toReal hq.1 hq.2, ← EReal.coe_toReal hk.1 hk.2, ← EReal.coe_mul, ← EReal.coe_mul, EReal.toReal_coe, EReal.toReal_coe]
  exact congrArg _ (by ring)

include hQ hK hV in
theorem outAt_apply (hfQ : Finite Q) (hfK : Finite K) (r : Fin 2048) (d : Fin 256) : outAt m c (ix2 r d) = refOut Q K V (ix2 (rowOf c r) d) := by
  obtain ⟨b, hb⟩ := st_at m c r d
  have h := hb 32
  have := kept_softmax b 32 (fun x : Fin 32 × Fin 512 => chunkRow c x.1.val x.2) (chunkRow_bijective c) (realScore Q K (rowOf c r)) (fun j => V (ix2 j d))
    (fun n j => ∑ e : Fin 256, qs m c (ix2 r e) * kc m c n (ix2 j e)) (fun n j => vc m c n (ix2 j d)) (fun n j => score_real m Q K hQ hK c hfQ hfK r n.val j) (fun n j => vc_apply m V hV c n.val j d)
  rw [← h] at this
  rw [refOut_apply Q K V hfQ hfK, outAt, quotient_apply]
  exact this

include hQ hK hV in
/-- A device's result is its rows of the reference's. -/
theorem outAt_eq (hfQ : Finite Q) (hfK : Finite K) : outAt m c = rowsOf c (refOut Q K V) := by
  funext i
  obtain ⟨r, d, rfl⟩ : ∃ (r : Fin 2048) (d : Fin 256), ix2 r d = i := ⟨i 0, i 1, ix2_eta (n0 := 2048) (n1 := 256) i⟩
  exact (outAt_apply m Q K V hQ hK hV c hfQ hfK r d).trans (rowsOf_apply c _ r d).symm
end Device

/-! ## The precondition -/

instance pre_kernel_facts : Cert.Pre_finite_scores_KernelIdeal.Facts where
  bcast_S_S2048x256 := by decide
  reducesTo_S2048x256_S_d0_1 := by decide
  h_S_ := by decide
instance pre_reference_facts : Cert.Pre_finite_scores_ReferenceIdeal.Facts where
  bcast_S_S16384x256 := by decide
  reducesTo_S16384x256_S_d0_1 := by decide
  h_S_ := by decide

/-- Below the greatest extended real in absolute value: finite. -/
theorem finite_of_lt (x : EReal) (h : Ideal.cmp .olt (max x (-x)) (Ideal.ofBits .bf16 0x7F80#16) = 1#1) : x ≠ ⊤ ∧ x ≠ ⊥ := by
  have ht : Ideal.ofBits .bf16 0x7F80#16 = ⊤ := by simp [Ideal.ofBits, Ideal.ieee]
  rw [ht] at h
  have hlt : max x (-x) < ⊤ := by
    by_contra hn
    have h0 : Ideal.cmp .olt (max x (-x)) ⊤ = 0#1 := by simp [Ideal.cmp, hn]
    rw [h0] at h
    exact absurd h (by decide)
  constructor
  · rintro rfl; simp at hlt
  · rintro rfl; simp at hlt

open Cert.Pre_finite_scores_KernelIdeal in
theorem finite_of_pre (q k v : FVec Ideal Cert.Pre_finite_scores_KernelIdeal.S2048x256 .bf16) (h : fn q k v = fun _ => 1#1) :
    (∀ i, q i ≠ ⊤ ∧ q i ≠ ⊥) ∧ (∀ i, k i ≠ ⊤ ∧ k i ≠ ⊥) := by
  haveI : Subsingleton Cert.Pre_finite_scores_KernelIdeal.S_.Idx := ⟨fun a b => funext fun x => x.elim0⟩
  obtain ⟨hq, hk⟩ := IntOp.andi_eq_one.1 (congrFun h (fun x => x.elim0))
  exact ⟨fun i => finite_of_lt _ (Host.reduce_andi_all _ _ _ _ _ hq i), fun i => finite_of_lt _ (Host.reduce_andi_all _ _ _ _ _ hk i)⟩

/-- Arrays whose every block is finite are finite. -/
theorem finite_whole (X : Whole) (Y : Dev nD → (⟨2, ![2048, 256]⟩ : Shape).Idx → EReal) (hY : ∀ c, Y c = rowsOf c X)
    (h : ∀ c i, Y c i ≠ ⊤ ∧ Y c i ≠ ⊥) : Finite X := by
  intro i
  obtain ⟨a, d, rfl⟩ : ∃ (a : Fin 16384) (d : Fin 256), ix2 a d = i := ⟨i 0, i 1, ix2_eta i⟩
  obtain ⟨c, r, rfl⟩ := rowOf_surj a
  rw [← rowsOf_apply c X r d, ← hY]
  exact h c _

/-! ## The claim -/

/-- From finite queries and keys: the kernel ends with every device holding its rows of the reference's result. -/
theorem value : Cert.algebraic_KernelIdeal_ReferenceIdeal_pre_finite_scores_KernelIdeal := by
  intro m g m' g' hpre hm
  refine ⟨_, ?_, θ_run_mono (reference_value m' g') fun r h => h 0⟩
  have fin := fun c => finite_of_pre _ _ _ (hpre c)
  have hfQ : Finite (s := ⟨2, ![16384, 256]⟩) (m' (((0 : Dev Cert.ReferenceIdeal.nD).tc : Thread Cert.ReferenceIdeal.nD Cert.ReferenceIdeal.τ).loc Cert.ReferenceIdeal.main_arg0)) :=
    finite_whole _ _ (fun c => (hm c).1) fun c => (fin c).1
  have hfK : Finite (s := ⟨2, ![16384, 256]⟩) (m' (((0 : Dev Cert.ReferenceIdeal.nD).tc : Thread Cert.ReferenceIdeal.nD Cert.ReferenceIdeal.τ).loc Cert.ReferenceIdeal.main_arg1)) :=
    finite_whole _ _ (fun c => (hm c).2.1) fun c => (fin c).2
  refine θ_run_mono (run (F := Ideal) m g) fun r h c => ⟨(h.1 c).1.trans ?_, (h.1 c).2⟩
  exact outAt_eq m _ _ _ (fun c => (hm c).1) (fun c => (hm c).2.1) (fun c => (hm c).2.2) c hfQ hfK

end Cert.KernelIdeal.Attn

end
-- ==== Proof.lean ====
/-
The certificate: every claim of `Cert.Claim`, each from the module that proves it. The side conditions the
three programs and the two predicates state come first.
-/
module

public import proofs.«01_k».proof.Defs
public import proofs.«01_k».proof.Proof.Frames
public import proofs.«01_k».proof.Proof.Value

@[expose] public section

noncomputable section

namespace Cert.Proof

open Cert.KernelIdeal.Attn

/-- The five claims: the three programs' frames (two of them also under the precondition), one text, one value. -/
theorem claim : Cert.Claim :=
  ⟨Cert.Kernel.Gen.facts, Cert.KernelIdeal.Gen.facts, Cert.ReferenceIdeal.Gen.facts, pre_kernel_facts, pre_reference_facts,
    frame_kernel, frame_ideal, frame_ideal_pre, frame_reference, frame_reference_pre, trivial, value⟩

end Cert.Proof

end
